-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v208)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v208) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x50000x128 : Shape := ⟨3, ![4, 50000, 128]⟩
abbrev S50000x3 : Shape := ⟨2, ![50000, 3]⟩
abbrev S_ : Shape := ⟨0, ![]⟩
abbrev S3 : Shape := ⟨1, ![3]⟩
abbrev S1x3 : Shape := ⟨2, ![1, 3]⟩
abbrev S50000 : Shape := ⟨1, ![50000]⟩
abbrev S128x3 : Shape := ⟨2, ![128, 3]⟩
abbrev S3x128 : Shape := ⟨2, ![3, 128]⟩
abbrev S50000x1 : Shape := ⟨2, ![50000, 1]⟩
abbrev S2000x3 : Shape := ⟨2, ![2000, 3]⟩
abbrev S2000x1 : Shape := ⟨2, ![2000, 1]⟩
abbrev S1x128 : Shape := ⟨2, ![1, 128]⟩
abbrev S2000x128 : Shape := ⟨2, ![2000, 128]⟩
abbrev S2000 : Shape := ⟨1, ![2000]⟩
abbrev S1 : Shape := ⟨1, ![1]⟩
abbrev S1x1 : Shape := ⟨2, ![1, 1]⟩
abbrev S128 : Shape := ⟨1, ![128]⟩
abbrev S50000x128 : Shape := ⟨2, ![50000, 128]⟩
abbrev S128x1 : Shape := ⟨2, ![128, 1]⟩
abbrev S1x2000x128 : Shape := ⟨3, ![1, 2000, 128]⟩

abbrev nBuf : Space → Nat
  | .hbm => 598
  | .vmem => 54
  | .smem => 0
  | _ => 0

abbrev hbmTy0_0 (i : Nat) : BufTy := match i % 128 with
  | 0 => ⟨S4x50000x128, .f32⟩
  | 1 => ⟨S50000x3, .f32⟩
  | 2 => ⟨S_, .f32⟩
  | 3 => ⟨S3, .f32⟩
  | 4 => ⟨S_, .f32⟩
  | 5 => ⟨S3, .f32⟩
  | 6 => ⟨S3, .f32⟩
  | 7 => ⟨S_, .i32⟩
  | 8 => ⟨S_, .f32⟩
  | 9 => ⟨S3, .f32⟩
  | 10 => ⟨S1x3, .f32⟩
  | 11 => ⟨S_, .f32⟩
  | 12 => ⟨S1x3, .f32⟩
  | 13 => ⟨S1x3, .f32⟩
  | 14 => ⟨S50000x3, .f32⟩
  | 15 => ⟨S50000x3, .f32⟩
  | 16 => ⟨S50000x3, .f32⟩
  | 17 => ⟨S_, .f32⟩
  | 18 => ⟨S_, .f32⟩
  | 19 => ⟨S_, .f32⟩
  | 20 => ⟨S_, .f32⟩
  | 21 => ⟨S3, .f32⟩
  | 22 => ⟨S3, .f32⟩
  | 23 => ⟨S3, .f32⟩
  | 24 => ⟨S_, .f32⟩
  | 25 => ⟨S_, .i1⟩
  | 26 => ⟨S_, .f32⟩
  | 27 => ⟨S_, .f32⟩
  | 28 => ⟨S3, .f32⟩
  | 29 => ⟨S3, .f32⟩
  | 30 => ⟨S3, .f32⟩
  | 31 => ⟨S_, .f32⟩
  | 32 => ⟨S3, .f32⟩
  | 33 => ⟨S3, .f32⟩
  | 34 => ⟨S1x3, .f32⟩
  | 35 => ⟨S50000x3, .f32⟩
  | 36 => ⟨S50000x3, .f32⟩
  | 37 => ⟨S1x3, .f32⟩
  | 38 => ⟨S50000x3, .f32⟩
  | 39 => ⟨S50000x3, .f32⟩
  | 40 => ⟨S_, .f32⟩
  | 41 => ⟨S50000, .f32⟩
  | 42 => ⟨S128x3, .f32⟩
  | 43 => ⟨S50000, .i32⟩
  | 44 => ⟨S3x128, .f32⟩
  | 45 => ⟨S50000x1, .i32⟩
  | 46 => ⟨S50000, .i32⟩
  | 47 => ⟨S50000, .i32⟩
  | 48 => ⟨S50000, .i32⟩
  | 49 => ⟨S_, .i32⟩
  | 50 => ⟨S50000, .i32⟩
  | 51 => ⟨S50000, .i1⟩
  | 52 => ⟨S_, .i32⟩
  | 53 => ⟨S50000, .i32⟩
  | 54 => ⟨S50000, .i32⟩
  | 55 => ⟨S50000, .i32⟩
  | 56 => ⟨S50000x1, .i32⟩
  | 57 => ⟨S1, .i32⟩
  | 58 => ⟨S_, .i32⟩
  | 59 => ⟨S50000x1, .i32⟩
  | 60 => ⟨S50000x1, .i1⟩
  | 61 => ⟨S1x1, .i32⟩
  | 62 => ⟨S50000x1, .i32⟩
  | 63 => ⟨S50000x1, .i1⟩
  | 64 => ⟨S50000x1, .i1⟩
  | 65 => ⟨S_, .i1⟩
  | 66 => ⟨S50000, .i1⟩
  | 67 => ⟨S50000x3, .f32⟩
  | 68 => ⟨S50000x3, .i1⟩
  | 69 => ⟨S_, .f32⟩
  | 70 => ⟨S50000x3, .f32⟩
  | 71 => ⟨S50000x3, .f32⟩
  | 72 => ⟨S_, .f32⟩
  | 73 => ⟨S128x3, .f32⟩
  | 74 => ⟨S50000x1, .i32⟩
  | 75 => ⟨S128x3, .f32⟩
  | 76 => ⟨S128, .i32⟩
  | 77 => ⟨S_, .i32⟩
  | 78 => ⟨S128, .i32⟩
  | 79 => ⟨S128, .i32⟩
  | 80 => ⟨S1x128, .i32⟩
  | 81 => ⟨S50000x1, .i32⟩
  | 82 => ⟨S50000x128, .i32⟩
  | 83 => ⟨S50000x128, .i32⟩
  | 84 => ⟨S50000x128, .i1⟩
  | 85 => ⟨S50000x128, .i32⟩
  | 86 => ⟨S_, .i32⟩
  | 87 => ⟨S128, .i32⟩
  | 88 => ⟨S128, .i32⟩
  | 89 => ⟨S1x128, .i32⟩
  | 90 => ⟨S50000x1, .i32⟩
  | 91 => ⟨S50000x128, .i32⟩
  | 92 => ⟨S50000x128, .i32⟩
  | 93 => ⟨S50000x128, .i1⟩
  | 94 => ⟨S50000x128, .i32⟩
  | 95 => ⟨S_, .i32⟩
  | 96 => ⟨S128, .i32⟩
  | 97 => ⟨S128, .i32⟩
  | 98 => ⟨S128, .f32⟩
  | 99 => ⟨S_, .f32⟩
  | 100 => ⟨S128, .f32⟩
  | 101 => ⟨S128, .f32⟩
  | 102 => ⟨S128x1, .f32⟩
  | 103 => ⟨S128x3, .f32⟩
  | 104 => ⟨S128x3, .f32⟩
  | 105 => ⟨S3x128, .f32⟩
  | 106 => ⟨S50000x1, .i32⟩
  | 107 => ⟨S50000, .i32⟩
  | 108 => ⟨S50000, .i32⟩
  | 109 => ⟨S50000, .i32⟩
  | 110 => ⟨S_, .i32⟩
  | 111 => ⟨S50000, .i32⟩
  | 112 => ⟨S50000, .i1⟩
  | 113 => ⟨S_, .i32⟩
  | 114 => ⟨S50000, .i32⟩
  | 115 => ⟨S50000, .i32⟩
  | 116 => ⟨S50000, .i32⟩
  | 117 => ⟨S50000x1, .i32⟩
  | 118 => ⟨S1, .i32⟩
  | 119 => ⟨S_, .i32⟩
  | 120 => ⟨S50000x1, .i32⟩
  | 121 => ⟨S50000x1, .i1⟩
  | 122 => ⟨S1x1, .i32⟩
  | 123 => ⟨S50000x1, .i32⟩
  | 124 => ⟨S50000x1, .i1⟩
  | 125 => ⟨S50000x1, .i1⟩
  | 126 => ⟨S_, .i1⟩
  | 127 => ⟨S50000, .i1⟩
  | _ => ⟨S4x50000x128, .f32⟩

abbrev hbmTy0_1 (i : Nat) : BufTy := match i % 128 with
  | 0 => ⟨S50000x3, .f32⟩
  | 1 => ⟨S50000x3, .i1⟩
  | 2 => ⟨S_, .f32⟩
  | 3 => ⟨S50000x3, .f32⟩
  | 4 => ⟨S50000x3, .f32⟩
  | 5 => ⟨S_, .f32⟩
  | 6 => ⟨S128x3, .f32⟩
  | 7 => ⟨S50000x1, .i32⟩
  | 8 => ⟨S128x3, .f32⟩
  | 9 => ⟨S128, .i32⟩
  | 10 => ⟨S_, .i32⟩
  | 11 => ⟨S128, .i32⟩
  | 12 => ⟨S128, .i32⟩
  | 13 => ⟨S1x128, .i32⟩
  | 14 => ⟨S50000x1, .i32⟩
  | 15 => ⟨S50000x128, .i32⟩
  | 16 => ⟨S50000x128, .i32⟩
  | 17 => ⟨S50000x128, .i1⟩
  | 18 => ⟨S50000x128, .i32⟩
  | 19 => ⟨S_, .i32⟩
  | 20 => ⟨S128, .i32⟩
  | 21 => ⟨S128, .i32⟩
  | 22 => ⟨S1x128, .i32⟩
  | 23 => ⟨S50000x1, .i32⟩
  | 24 => ⟨S50000x128, .i32⟩
  | 25 => ⟨S50000x128, .i32⟩
  | 26 => ⟨S50000x128, .i1⟩
  | 27 => ⟨S50000x128, .i32⟩
  | 28 => ⟨S_, .i32⟩
  | 29 => ⟨S128, .i32⟩
  | 30 => ⟨S128, .i32⟩
  | 31 => ⟨S128, .f32⟩
  | 32 => ⟨S_, .f32⟩
  | 33 => ⟨S128, .f32⟩
  | 34 => ⟨S128, .f32⟩
  | 35 => ⟨S128x1, .f32⟩
  | 36 => ⟨S128x3, .f32⟩
  | 37 => ⟨S128x3, .f32⟩
  | 38 => ⟨S3x128, .f32⟩
  | 39 => ⟨S50000x1, .i32⟩
  | 40 => ⟨S50000, .i32⟩
  | 41 => ⟨S50000, .i32⟩
  | 42 => ⟨S50000, .i32⟩
  | 43 => ⟨S_, .i32⟩
  | 44 => ⟨S50000, .i32⟩
  | 45 => ⟨S50000, .i1⟩
  | 46 => ⟨S_, .i32⟩
  | 47 => ⟨S50000, .i32⟩
  | 48 => ⟨S50000, .i32⟩
  | 49 => ⟨S50000, .i32⟩
  | 50 => ⟨S50000x1, .i32⟩
  | 51 => ⟨S1, .i32⟩
  | 52 => ⟨S_, .i32⟩
  | 53 => ⟨S50000x1, .i32⟩
  | 54 => ⟨S50000x1, .i1⟩
  | 55 => ⟨S1x1, .i32⟩
  | 56 => ⟨S50000x1, .i32⟩
  | 57 => ⟨S50000x1, .i1⟩
  | 58 => ⟨S50000x1, .i1⟩
  | 59 => ⟨S_, .i1⟩
  | 60 => ⟨S50000, .i1⟩
  | 61 => ⟨S50000x3, .f32⟩
  | 62 => ⟨S50000x3, .i1⟩
  | 63 => ⟨S_, .f32⟩
  | 64 => ⟨S50000x3, .f32⟩
  | 65 => ⟨S50000x3, .f32⟩
  | 66 => ⟨S_, .f32⟩
  | 67 => ⟨S128x3, .f32⟩
  | 68 => ⟨S50000x1, .i32⟩
  | 69 => ⟨S128x3, .f32⟩
  | 70 => ⟨S128, .i32⟩
  | 71 => ⟨S_, .i32⟩
  | 72 => ⟨S128, .i32⟩
  | 73 => ⟨S128, .i32⟩
  | 74 => ⟨S1x128, .i32⟩
  | 75 => ⟨S50000x1, .i32⟩
  | 76 => ⟨S50000x128, .i32⟩
  | 77 => ⟨S50000x128, .i32⟩
  | 78 => ⟨S50000x128, .i1⟩
  | 79 => ⟨S50000x128, .i32⟩
  | 80 => ⟨S_, .i32⟩
  | 81 => ⟨S128, .i32⟩
  | 82 => ⟨S128, .i32⟩
  | 83 => ⟨S1x128, .i32⟩
  | 84 => ⟨S50000x1, .i32⟩
  | 85 => ⟨S50000x128, .i32⟩
  | 86 => ⟨S50000x128, .i32⟩
  | 87 => ⟨S50000x128, .i1⟩
  | 88 => ⟨S50000x128, .i32⟩
  | 89 => ⟨S_, .i32⟩
  | 90 => ⟨S128, .i32⟩
  | 91 => ⟨S128, .i32⟩
  | 92 => ⟨S128, .f32⟩
  | 93 => ⟨S_, .f32⟩
  | 94 => ⟨S128, .f32⟩
  | 95 => ⟨S128, .f32⟩
  | 96 => ⟨S128x1, .f32⟩
  | 97 => ⟨S128x3, .f32⟩
  | 98 => ⟨S128x3, .f32⟩
  | 99 => ⟨S3x128, .f32⟩
  | 100 => ⟨S50000x1, .i32⟩
  | 101 => ⟨S50000, .i32⟩
  | 102 => ⟨S50000, .i32⟩
  | 103 => ⟨S50000, .i32⟩
  | 104 => ⟨S_, .i32⟩
  | 105 => ⟨S50000, .i32⟩
  | 106 => ⟨S50000, .i1⟩
  | 107 => ⟨S_, .i32⟩
  | 108 => ⟨S50000, .i32⟩
  | 109 => ⟨S50000, .i32⟩
  | 110 => ⟨S50000, .i32⟩
  | 111 => ⟨S50000x1, .i32⟩
  | 112 => ⟨S1, .i32⟩
  | 113 => ⟨S_, .i32⟩
  | 114 => ⟨S50000x1, .i32⟩
  | 115 => ⟨S50000x1, .i1⟩
  | 116 => ⟨S1x1, .i32⟩
  | 117 => ⟨S50000x1, .i32⟩
  | 118 => ⟨S50000x1, .i1⟩
  | 119 => ⟨S50000x1, .i1⟩
  | 120 => ⟨S_, .i1⟩
  | 121 => ⟨S50000, .i1⟩
  | 122 => ⟨S50000x3, .f32⟩
  | 123 => ⟨S50000x3, .i1⟩
  | 124 => ⟨S_, .f32⟩
  | 125 => ⟨S50000x3, .f32⟩
  | 126 => ⟨S50000x3, .f32⟩
  | 127 => ⟨S_, .f32⟩
  | _ => ⟨S4x50000x128, .f32⟩

abbrev hbmTy0_2 (i : Nat) : BufTy := match i % 128 with
  | 0 => ⟨S128x3, .f32⟩
  | 1 => ⟨S50000x1, .i32⟩
  | 2 => ⟨S128x3, .f32⟩
  | 3 => ⟨S128, .i32⟩
  | 4 => ⟨S_, .i32⟩
  | 5 => ⟨S128, .i32⟩
  | 6 => ⟨S128, .i32⟩
  | 7 => ⟨S1x128, .i32⟩
  | 8 => ⟨S50000x1, .i32⟩
  | 9 => ⟨S50000x128, .i32⟩
  | 10 => ⟨S50000x128, .i32⟩
  | 11 => ⟨S50000x128, .i1⟩
  | 12 => ⟨S50000x128, .i32⟩
  | 13 => ⟨S_, .i32⟩
  | 14 => ⟨S128, .i32⟩
  | 15 => ⟨S128, .i32⟩
  | 16 => ⟨S1x128, .i32⟩
  | 17 => ⟨S50000x1, .i32⟩
  | 18 => ⟨S50000x128, .i32⟩
  | 19 => ⟨S50000x128, .i32⟩
  | 20 => ⟨S50000x128, .i1⟩
  | 21 => ⟨S50000x128, .i32⟩
  | 22 => ⟨S_, .i32⟩
  | 23 => ⟨S128, .i32⟩
  | 24 => ⟨S128, .i32⟩
  | 25 => ⟨S128, .f32⟩
  | 26 => ⟨S_, .f32⟩
  | 27 => ⟨S128, .f32⟩
  | 28 => ⟨S128, .f32⟩
  | 29 => ⟨S128x1, .f32⟩
  | 30 => ⟨S128x3, .f32⟩
  | 31 => ⟨S128x3, .f32⟩
  | 32 => ⟨S3x128, .f32⟩
  | 33 => ⟨S50000x1, .i32⟩
  | 34 => ⟨S50000, .i32⟩
  | 35 => ⟨S50000, .i32⟩
  | 36 => ⟨S50000, .i32⟩
  | 37 => ⟨S_, .i32⟩
  | 38 => ⟨S50000, .i32⟩
  | 39 => ⟨S50000, .i1⟩
  | 40 => ⟨S_, .i32⟩
  | 41 => ⟨S50000, .i32⟩
  | 42 => ⟨S50000, .i32⟩
  | 43 => ⟨S50000, .i32⟩
  | 44 => ⟨S50000x1, .i32⟩
  | 45 => ⟨S1, .i32⟩
  | 46 => ⟨S_, .i32⟩
  | 47 => ⟨S50000x1, .i32⟩
  | 48 => ⟨S50000x1, .i1⟩
  | 49 => ⟨S1x1, .i32⟩
  | 50 => ⟨S50000x1, .i32⟩
  | 51 => ⟨S50000x1, .i1⟩
  | 52 => ⟨S50000x1, .i1⟩
  | 53 => ⟨S_, .i1⟩
  | 54 => ⟨S50000, .i1⟩
  | 55 => ⟨S50000x3, .f32⟩
  | 56 => ⟨S50000x3, .i1⟩
  | 57 => ⟨S_, .f32⟩
  | 58 => ⟨S50000x3, .f32⟩
  | 59 => ⟨S50000x3, .f32⟩
  | 60 => ⟨S_, .f32⟩
  | 61 => ⟨S128x3, .f32⟩
  | 62 => ⟨S50000x1, .i32⟩
  | 63 => ⟨S128x3, .f32⟩
  | 64 => ⟨S128, .i32⟩
  | 65 => ⟨S_, .i32⟩
  | 66 => ⟨S128, .i32⟩
  | 67 => ⟨S128, .i32⟩
  | 68 => ⟨S1x128, .i32⟩
  | 69 => ⟨S50000x1, .i32⟩
  | 70 => ⟨S50000x128, .i32⟩
  | 71 => ⟨S50000x128, .i32⟩
  | 72 => ⟨S50000x128, .i1⟩
  | 73 => ⟨S50000x128, .i32⟩
  | 74 => ⟨S_, .i32⟩
  | 75 => ⟨S128, .i32⟩
  | 76 => ⟨S128, .i32⟩
  | 77 => ⟨S1x128, .i32⟩
  | 78 => ⟨S50000x1, .i32⟩
  | 79 => ⟨S50000x128, .i32⟩
  | 80 => ⟨S50000x128, .i32⟩
  | 81 => ⟨S50000x128, .i1⟩
  | 82 => ⟨S50000x128, .i32⟩
  | 83 => ⟨S_, .i32⟩
  | 84 => ⟨S128, .i32⟩
  | 85 => ⟨S128, .i32⟩
  | 86 => ⟨S128, .f32⟩
  | 87 => ⟨S_, .f32⟩
  | 88 => ⟨S128, .f32⟩
  | 89 => ⟨S128, .f32⟩
  | 90 => ⟨S128x1, .f32⟩
  | 91 => ⟨S128x3, .f32⟩
  | 92 => ⟨S128x3, .f32⟩
  | 93 => ⟨S3x128, .f32⟩
  | 94 => ⟨S50000x1, .i32⟩
  | 95 => ⟨S50000, .i32⟩
  | 96 => ⟨S50000, .i32⟩
  | 97 => ⟨S50000, .i32⟩
  | 98 => ⟨S_, .i32⟩
  | 99 => ⟨S50000, .i32⟩
  | 100 => ⟨S50000, .i1⟩
  | 101 => ⟨S_, .i32⟩
  | 102 => ⟨S50000, .i32⟩
  | 103 => ⟨S50000, .i32⟩
  | 104 => ⟨S50000, .i32⟩
  | 105 => ⟨S50000x1, .i32⟩
  | 106 => ⟨S1, .i32⟩
  | 107 => ⟨S_, .i32⟩
  | 108 => ⟨S50000x1, .i32⟩
  | 109 => ⟨S50000x1, .i1⟩
  | 110 => ⟨S1x1, .i32⟩
  | 111 => ⟨S50000x1, .i32⟩
  | 112 => ⟨S50000x1, .i1⟩
  | 113 => ⟨S50000x1, .i1⟩
  | 114 => ⟨S_, .i1⟩
  | 115 => ⟨S50000, .i1⟩
  | 116 => ⟨S50000x3, .f32⟩
  | 117 => ⟨S50000x3, .i1⟩
  | 118 => ⟨S_, .f32⟩
  | 119 => ⟨S50000x3, .f32⟩
  | 120 => ⟨S50000x3, .f32⟩
  | 121 => ⟨S_, .f32⟩
  | 122 => ⟨S128x3, .f32⟩
  | 123 => ⟨S50000x1, .i32⟩
  | 124 => ⟨S128x3, .f32⟩
  | 125 => ⟨S128, .i32⟩
  | 126 => ⟨S_, .i32⟩
  | 127 => ⟨S128, .i32⟩
  | _ => ⟨S4x50000x128, .f32⟩

abbrev hbmTy0_3 (i : Nat) : BufTy := match i % 128 with
  | 0 => ⟨S128, .i32⟩
  | 1 => ⟨S1x128, .i32⟩
  | 2 => ⟨S50000x1, .i32⟩
  | 3 => ⟨S50000x128, .i32⟩
  | 4 => ⟨S50000x128, .i32⟩
  | 5 => ⟨S50000x128, .i1⟩
  | 6 => ⟨S50000x128, .i32⟩
  | 7 => ⟨S_, .i32⟩
  | 8 => ⟨S128, .i32⟩
  | 9 => ⟨S128, .i32⟩
  | 10 => ⟨S1x128, .i32⟩
  | 11 => ⟨S50000x1, .i32⟩
  | 12 => ⟨S50000x128, .i32⟩
  | 13 => ⟨S50000x128, .i32⟩
  | 14 => ⟨S50000x128, .i1⟩
  | 15 => ⟨S50000x128, .i32⟩
  | 16 => ⟨S_, .i32⟩
  | 17 => ⟨S128, .i32⟩
  | 18 => ⟨S128, .i32⟩
  | 19 => ⟨S128, .f32⟩
  | 20 => ⟨S_, .f32⟩
  | 21 => ⟨S128, .f32⟩
  | 22 => ⟨S128, .f32⟩
  | 23 => ⟨S128x1, .f32⟩
  | 24 => ⟨S128x3, .f32⟩
  | 25 => ⟨S128x3, .f32⟩
  | 26 => ⟨S3x128, .f32⟩
  | 27 => ⟨S50000x1, .i32⟩
  | 28 => ⟨S50000, .i32⟩
  | 29 => ⟨S50000, .i32⟩
  | 30 => ⟨S50000, .i32⟩
  | 31 => ⟨S_, .i32⟩
  | 32 => ⟨S50000, .i32⟩
  | 33 => ⟨S50000, .i1⟩
  | 34 => ⟨S_, .i32⟩
  | 35 => ⟨S50000, .i32⟩
  | 36 => ⟨S50000, .i32⟩
  | 37 => ⟨S50000, .i32⟩
  | 38 => ⟨S50000x1, .i32⟩
  | 39 => ⟨S1, .i32⟩
  | 40 => ⟨S_, .i32⟩
  | 41 => ⟨S50000x1, .i32⟩
  | 42 => ⟨S50000x1, .i1⟩
  | 43 => ⟨S1x1, .i32⟩
  | 44 => ⟨S50000x1, .i32⟩
  | 45 => ⟨S50000x1, .i1⟩
  | 46 => ⟨S50000x1, .i1⟩
  | 47 => ⟨S_, .i1⟩
  | 48 => ⟨S50000, .i1⟩
  | 49 => ⟨S50000x3, .f32⟩
  | 50 => ⟨S50000x3, .i1⟩
  | 51 => ⟨S_, .f32⟩
  | 52 => ⟨S50000x3, .f32⟩
  | 53 => ⟨S50000x3, .f32⟩
  | 54 => ⟨S_, .f32⟩
  | 55 => ⟨S128x3, .f32⟩
  | 56 => ⟨S50000x1, .i32⟩
  | 57 => ⟨S128x3, .f32⟩
  | 58 => ⟨S128, .i32⟩
  | 59 => ⟨S_, .i32⟩
  | 60 => ⟨S128, .i32⟩
  | 61 => ⟨S128, .i32⟩
  | 62 => ⟨S1x128, .i32⟩
  | 63 => ⟨S50000x1, .i32⟩
  | 64 => ⟨S50000x128, .i32⟩
  | 65 => ⟨S50000x128, .i32⟩
  | 66 => ⟨S50000x128, .i1⟩
  | 67 => ⟨S50000x128, .i32⟩
  | 68 => ⟨S_, .i32⟩
  | 69 => ⟨S128, .i32⟩
  | 70 => ⟨S128, .i32⟩
  | 71 => ⟨S1x128, .i32⟩
  | 72 => ⟨S50000x1, .i32⟩
  | 73 => ⟨S50000x128, .i32⟩
  | 74 => ⟨S50000x128, .i32⟩
  | 75 => ⟨S50000x128, .i1⟩
  | 76 => ⟨S50000x128, .i32⟩
  | 77 => ⟨S_, .i32⟩
  | 78 => ⟨S128, .i32⟩
  | 79 => ⟨S128, .i32⟩
  | 80 => ⟨S128, .f32⟩
  | 81 => ⟨S_, .f32⟩
  | 82 => ⟨S128, .f32⟩
  | 83 => ⟨S128, .f32⟩
  | 84 => ⟨S128x1, .f32⟩
  | 85 => ⟨S128x3, .f32⟩
  | 86 => ⟨S128x3, .f32⟩
  | 87 => ⟨S3x128, .f32⟩
  | 88 => ⟨S50000x1, .i32⟩
  | 89 => ⟨S50000, .i32⟩
  | 90 => ⟨S50000, .i32⟩
  | 91 => ⟨S50000, .i32⟩
  | 92 => ⟨S_, .i32⟩
  | 93 => ⟨S50000, .i32⟩
  | 94 => ⟨S50000, .i1⟩
  | 95 => ⟨S_, .i32⟩
  | 96 => ⟨S50000, .i32⟩
  | 97 => ⟨S50000, .i32⟩
  | 98 => ⟨S50000, .i32⟩
  | 99 => ⟨S50000x1, .i32⟩
  | 100 => ⟨S1, .i32⟩
  | 101 => ⟨S_, .i32⟩
  | 102 => ⟨S50000x1, .i32⟩
  | 103 => ⟨S50000x1, .i1⟩
  | 104 => ⟨S1x1, .i32⟩
  | 105 => ⟨S50000x1, .i32⟩
  | 106 => ⟨S50000x1, .i1⟩
  | 107 => ⟨S50000x1, .i1⟩
  | 108 => ⟨S_, .i1⟩
  | 109 => ⟨S50000, .i1⟩
  | 110 => ⟨S50000x3, .f32⟩
  | 111 => ⟨S50000x3, .i1⟩
  | 112 => ⟨S_, .f32⟩
  | 113 => ⟨S50000x3, .f32⟩
  | 114 => ⟨S50000x3, .f32⟩
  | 115 => ⟨S_, .f32⟩
  | 116 => ⟨S128x3, .f32⟩
  | 117 => ⟨S50000x1, .i32⟩
  | 118 => ⟨S128x3, .f32⟩
  | 119 => ⟨S128, .i32⟩
  | 120 => ⟨S_, .i32⟩
  | 121 => ⟨S128, .i32⟩
  | 122 => ⟨S128, .i32⟩
  | 123 => ⟨S1x128, .i32⟩
  | 124 => ⟨S50000x1, .i32⟩
  | 125 => ⟨S50000x128, .i32⟩
  | 126 => ⟨S50000x128, .i32⟩
  | 127 => ⟨S50000x128, .i1⟩
  | _ => ⟨S4x50000x128, .f32⟩

abbrev hbmTy0_4 (i : Nat) : BufTy := match i % 128 with
  | 0 => ⟨S50000x128, .i32⟩
  | 1 => ⟨S_, .i32⟩
  | 2 => ⟨S128, .i32⟩
  | 3 => ⟨S128, .i32⟩
  | 4 => ⟨S1x128, .i32⟩
  | 5 => ⟨S50000x1, .i32⟩
  | 6 => ⟨S50000x128, .i32⟩
  | 7 => ⟨S50000x128, .i32⟩
  | 8 => ⟨S50000x128, .i1⟩
  | 9 => ⟨S50000x128, .i32⟩
  | 10 => ⟨S_, .i32⟩
  | 11 => ⟨S128, .i32⟩
  | 12 => ⟨S128, .i32⟩
  | 13 => ⟨S128, .f32⟩
  | 14 => ⟨S_, .f32⟩
  | 15 => ⟨S128, .f32⟩
  | 16 => ⟨S128, .f32⟩
  | 17 => ⟨S128x1, .f32⟩
  | 18 => ⟨S128x3, .f32⟩
  | 19 => ⟨S128x3, .f32⟩
  | 20 => ⟨S3x128, .f32⟩
  | 21 => ⟨S50000x1, .i32⟩
  | 22 => ⟨S50000, .i32⟩
  | 23 => ⟨S50000, .i32⟩
  | 24 => ⟨S50000, .i32⟩
  | 25 => ⟨S_, .i32⟩
  | 26 => ⟨S50000, .i32⟩
  | 27 => ⟨S50000, .i1⟩
  | 28 => ⟨S_, .i32⟩
  | 29 => ⟨S50000, .i32⟩
  | 30 => ⟨S50000, .i32⟩
  | 31 => ⟨S50000, .i32⟩
  | 32 => ⟨S50000x1, .i32⟩
  | 33 => ⟨S1, .i32⟩
  | 34 => ⟨S_, .i32⟩
  | 35 => ⟨S50000x1, .i32⟩
  | 36 => ⟨S50000x1, .i1⟩
  | 37 => ⟨S1x1, .i32⟩
  | 38 => ⟨S50000x1, .i32⟩
  | 39 => ⟨S50000x1, .i1⟩
  | 40 => ⟨S50000x1, .i1⟩
  | 41 => ⟨S_, .i1⟩
  | 42 => ⟨S50000, .i1⟩
  | 43 => ⟨S50000x3, .f32⟩
  | 44 => ⟨S50000x3, .i1⟩
  | 45 => ⟨S_, .f32⟩
  | 46 => ⟨S50000x3, .f32⟩
  | 47 => ⟨S50000x3, .f32⟩
  | 48 => ⟨S_, .f32⟩
  | 49 => ⟨S128x3, .f32⟩
  | 50 => ⟨S50000x1, .i32⟩
  | 51 => ⟨S128x3, .f32⟩
  | 52 => ⟨S128, .i32⟩
  | 53 => ⟨S_, .i32⟩
  | 54 => ⟨S128, .i32⟩
  | 55 => ⟨S128, .i32⟩
  | 56 => ⟨S1x128, .i32⟩
  | 57 => ⟨S50000x1, .i32⟩
  | 58 => ⟨S50000x128, .i32⟩
  | 59 => ⟨S50000x128, .i32⟩
  | 60 => ⟨S50000x128, .i1⟩
  | 61 => ⟨S50000x128, .i32⟩
  | 62 => ⟨S_, .i32⟩
  | 63 => ⟨S128, .i32⟩
  | 64 => ⟨S128, .i32⟩
  | 65 => ⟨S1x128, .i32⟩
  | 66 => ⟨S50000x1, .i32⟩
  | 67 => ⟨S50000x128, .i32⟩
  | 68 => ⟨S50000x128, .i32⟩
  | 69 => ⟨S50000x128, .i1⟩
  | 70 => ⟨S50000x128, .i32⟩
  | 71 => ⟨S_, .i32⟩
  | 72 => ⟨S128, .i32⟩
  | 73 => ⟨S128, .i32⟩
  | 74 => ⟨S128, .f32⟩
  | 75 => ⟨S_, .f32⟩
  | 76 => ⟨S128, .f32⟩
  | 77 => ⟨S128, .f32⟩
  | 78 => ⟨S128x1, .f32⟩
  | 79 => ⟨S128x3, .f32⟩
  | 80 => ⟨S128x3, .f32⟩
  | 81 => ⟨S3x128, .f32⟩
  | 82 => ⟨S50000x1, .i32⟩
  | 83 => ⟨S50000, .i32⟩
  | 84 => ⟨S50000x1, .i32⟩
  | 85 => ⟨S4x50000x128, .f32⟩
  | _ => ⟨S4x50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x50000x128, .f32⟩

abbrev bufTy : (tb : Table) → Fin (tcTables nBuf tb) → BufTy
  | .hbm, ⟨i, _⟩ => hbmTy i
  | .local _ .vmem, ⟨0, _⟩ => ⟨S2000x3, .f32⟩
  | .local _ .vmem, ⟨1, _⟩ => ⟨S2000x3, .f32⟩
  | .local _ .vmem, ⟨2, _⟩ => ⟨S3x128, .f32⟩
  | .local _ .vmem, ⟨3, _⟩ => ⟨S2000x1, .i32⟩
  | .local _ .vmem, ⟨4, _⟩ => ⟨S2000x1, .i32⟩
  | .local _ .vmem, ⟨5, _⟩ => ⟨S2000x3, .f32⟩
  | .local _ .vmem, ⟨6, _⟩ => ⟨S2000x3, .f32⟩
  | .local _ .vmem, ⟨7, _⟩ => ⟨S3x128, .f32⟩
  | .local _ .vmem, ⟨8, _⟩ => ⟨S2000x1, .i32⟩
  | .local _ .vmem, ⟨9, _⟩ => ⟨S2000x1, .i32⟩
  | .local _ .vmem, ⟨10, _⟩ => ⟨S2000x3, .f32⟩
  | .local _ .vmem, ⟨11, _⟩ => ⟨S2000x3, .f32⟩
  | .local _ .vmem, ⟨12, _⟩ => ⟨S3x128, .f32⟩
  | .local _ .vmem, ⟨13, _⟩ => ⟨S2000x1, .i32⟩
  | .local _ .vmem, ⟨14, _⟩ => ⟨S2000x1, .i32⟩
  | .local _ .vmem, ⟨15, _⟩ => ⟨S2000x3, .f32⟩
  | .local _ .vmem, ⟨16, _⟩ => ⟨S2000x3, .f32⟩
  | .local _ .vmem, ⟨17, _⟩ => ⟨S3x128, .f32⟩
  | .local _ .vmem, ⟨18, _⟩ => ⟨S2000x1, .i32⟩
  | .local _ .vmem, ⟨19, _⟩ => ⟨S2000x1, .i32⟩
  | .local _ .vmem, ⟨20, _⟩ => ⟨S2000x3, .f32⟩
  | .local _ .vmem, ⟨21, _⟩ => ⟨S2000x3, .f32⟩
  | .local _ .vmem, ⟨22, _⟩ => ⟨S3x128, .f32⟩
  | .local _ .vmem, ⟨23, _⟩ => ⟨S2000x1, .i32⟩
  | .local _ .vmem, ⟨24, _⟩ => ⟨S2000x1, .i32⟩
  | .local _ .vmem, ⟨25, _⟩ => ⟨S2000x3, .f32⟩
  | .local _ .vmem, ⟨26, _⟩ => ⟨S2000x3, .f32⟩
  | .local _ .vmem, ⟨27, _⟩ => ⟨S3x128, .f32⟩
  | .local _ .vmem, ⟨28, _⟩ => ⟨S2000x1, .i32⟩
  | .local _ .vmem, ⟨29, _⟩ => ⟨S2000x1, .i32⟩
  | .local _ .vmem, ⟨30, _⟩ => ⟨S2000x3, .f32⟩
  | .local _ .vmem, ⟨31, _⟩ => ⟨S2000x3, .f32⟩
  | .local _ .vmem, ⟨32, _⟩ => ⟨S3x128, .f32⟩
  | .local _ .vmem, ⟨33, _⟩ => ⟨S2000x1, .i32⟩
  | .local _ .vmem, ⟨34, _⟩ => ⟨S2000x1, .i32⟩
  | .local _ .vmem, ⟨35, _⟩ => ⟨S2000x3, .f32⟩
  | .local _ .vmem, ⟨36, _⟩ => ⟨S2000x3, .f32⟩
  | .local _ .vmem, ⟨37, _⟩ => ⟨S3x128, .f32⟩
  | .local _ .vmem, ⟨38, _⟩ => ⟨S2000x1, .i32⟩
  | .local _ .vmem, ⟨39, _⟩ => ⟨S2000x1, .i32⟩
  | .local _ .vmem, ⟨40, _⟩ => ⟨S2000x3, .f32⟩
  | .local _ .vmem, ⟨41, _⟩ => ⟨S2000x3, .f32⟩
  | .local _ .vmem, ⟨42, _⟩ => ⟨S3x128, .f32⟩
  | .local _ .vmem, ⟨43, _⟩ => ⟨S2000x1, .i32⟩
  | .local _ .vmem, ⟨44, _⟩ => ⟨S2000x1, .i32⟩
  | .local _ .vmem, ⟨45, _⟩ => ⟨S2000x3, .f32⟩
  | .local _ .vmem, ⟨46, _⟩ => ⟨S2000x3, .f32⟩
  | .local _ .vmem, ⟨47, _⟩ => ⟨S3x128, .f32⟩
  | .local _ .vmem, ⟨48, _⟩ => ⟨S2000x1, .i32⟩
  | .local _ .vmem, ⟨49, _⟩ => ⟨S2000x1, .i32⟩
  | .local _ .vmem, ⟨50, _⟩ => ⟨S2000x1, .i32⟩
  | .local _ .vmem, ⟨51, _⟩ => ⟨S2000x1, .i32⟩
  | .local _ .vmem, ⟨52, _⟩ => ⟨S1x2000x128, .f32⟩
  | .local _ .vmem, ⟨53, _⟩ => ⟨S1x2000x128, .f32⟩
  | _, _ => ⟨S4x50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_cst_0 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_cst_1 : Ref sig .tc := ⟨.hbm, 18, rfl⟩
abbrev main_call0_call0_v8 : Ref sig .tc := ⟨.hbm, 19, rfl⟩
abbrev main_call0_call0_cst_2 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_call0_cst_3 : Ref sig .tc := ⟨.hbm, 24, rfl⟩
abbrev main_call0_call0_v12 : Ref sig .tc := ⟨.hbm, 25, rfl⟩
abbrev main_call0_call0_cst_4 : Ref sig .tc := ⟨.hbm, 26, rfl⟩
abbrev main_call0_call0_call0_v0 : Ref sig .tc := ⟨.hbm, 27, rfl⟩
abbrev main_call0_call0_call0_v1 : Ref sig .tc := ⟨.hbm, 28, rfl⟩
abbrev main_call0_v0 : Ref sig .tc := ⟨.hbm, 29, rfl⟩
abbrev main_v3 : Ref sig .tc := ⟨.hbm, 30, rfl⟩
abbrev main_cst_1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_2 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18_0 : Ref sig .tc := ⟨.hbm, 47, rfl⟩
abbrev main_v18_1 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v19 : Ref sig .tc := ⟨.hbm, 71, rfl⟩
abbrev main_cst_3 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_c_4 : Ref sig .tc := ⟨.hbm, 77, rfl⟩
abbrev main_v24 : Ref sig .tc := ⟨.hbm, 78, rfl⟩
abbrev main_v25 : Ref sig .tc := ⟨.hbm, 79, rfl⟩
abbrev main_call2_call0_v0 : Ref sig .tc := ⟨.hbm, 80, rfl⟩
abbrev main_call2_call0_v1 : Ref sig .tc := ⟨.hbm, 81, rfl⟩
abbrev main_call2_call0_v2 : Ref sig .tc := ⟨.hbm, 82, rfl⟩
abbrev main_call2_call0_v3 : Ref sig .tc := ⟨.hbm, 83, rfl⟩
abbrev main_call2_call0_v4 : Ref sig .tc := ⟨.hbm, 84, rfl⟩
abbrev main_call2_call0_v5 : Ref sig .tc := ⟨.hbm, 85, rfl⟩
abbrev main_call2_call0_c : Ref sig .tc := ⟨.hbm, 86, rfl⟩
abbrev main_v26 : Ref sig .tc := ⟨.hbm, 87, rfl⟩
abbrev main_v27 : Ref sig .tc := ⟨.hbm, 88, rfl⟩
abbrev main_call3_call0_v0 : Ref sig .tc := ⟨.hbm, 89, rfl⟩
abbrev main_call3_call0_v1 : Ref sig .tc := ⟨.hbm, 90, rfl⟩
abbrev main_call3_call0_v2 : Ref sig .tc := ⟨.hbm, 91, rfl⟩
abbrev main_call3_call0_v3 : Ref sig .tc := ⟨.hbm, 92, rfl⟩
abbrev main_call3_call0_v4 : Ref sig .tc := ⟨.hbm, 93, rfl⟩
abbrev main_call3_call0_v5 : Ref sig .tc := ⟨.hbm, 94, rfl⟩
abbrev main_call3_call0_c : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_cst_5 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39_0 : Ref sig .tc := ⟨.hbm, 108, rfl⟩
abbrev main_v39_1 : Ref sig .tc := ⟨.hbm, 109, rfl⟩
abbrev main_call4_c : Ref sig .tc := ⟨.hbm, 110, rfl⟩
abbrev main_call4_v0 : Ref sig .tc := ⟨.hbm, 111, rfl⟩
abbrev main_call4_v1 : Ref sig .tc := ⟨.hbm, 112, rfl⟩
abbrev main_call4_c_0 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_call4_v5 : Ref sig .tc := ⟨.hbm, 117, rfl⟩
abbrev main_call4_c_1 : Ref sig .tc := ⟨.hbm, 118, rfl⟩
abbrev main_call4_c_2 : Ref sig .tc := ⟨.hbm, 119, rfl⟩
abbrev main_call4_v6 : Ref sig .tc := ⟨.hbm, 120, rfl⟩
abbrev main_call4_v7 : Ref sig .tc := ⟨.hbm, 121, rfl⟩
abbrev main_call4_v8 : Ref sig .tc := ⟨.hbm, 122, rfl⟩
abbrev main_call4_v9 : Ref sig .tc := ⟨.hbm, 123, rfl⟩
abbrev main_call4_v10 : Ref sig .tc := ⟨.hbm, 124, rfl⟩
abbrev main_call4_v11 : Ref sig .tc := ⟨.hbm, 125, rfl⟩
abbrev main_call4_c_3 : Ref sig .tc := ⟨.hbm, 126, rfl⟩
abbrev main_call4_v12 : Ref sig .tc := ⟨.hbm, 127, rfl⟩
abbrev main_call4_v13 : Ref sig .tc := ⟨.hbm, 128, rfl⟩
abbrev main_call4_v14 : Ref sig .tc := ⟨.hbm, 129, rfl⟩
abbrev main_call4_cst : Ref sig .tc := ⟨.hbm, 130, rfl⟩
abbrev main_call4_v15 : Ref sig .tc := ⟨.hbm, 131, rfl⟩
abbrev main_v40 : Ref sig .tc := ⟨.hbm, 132, rfl⟩
abbrev main_cst_6 : Ref sig .tc := ⟨.hbm, 133, rfl⟩
abbrev main_v41 : Ref sig .tc := ⟨.hbm, 134, rfl⟩
abbrev main_v42 : Ref sig .tc := ⟨.hbm, 135, rfl⟩
abbrev main_v43 : Ref sig .tc := ⟨.hbm, 136, rfl⟩
abbrev main_v44 : Ref sig .tc := ⟨.hbm, 137, rfl⟩
abbrev main_c_7 : Ref sig .tc := ⟨.hbm, 138, rfl⟩
abbrev main_v45 : Ref sig .tc := ⟨.hbm, 139, rfl⟩
abbrev main_v46 : Ref sig .tc := ⟨.hbm, 140, rfl⟩
abbrev main_call5_call0_v0 : Ref sig .tc := ⟨.hbm, 141, rfl⟩
abbrev main_call5_call0_v1 : Ref sig .tc := ⟨.hbm, 142, rfl⟩
abbrev main_call5_call0_v2 : Ref sig .tc := ⟨.hbm, 143, rfl⟩
abbrev main_call5_call0_v3 : Ref sig .tc := ⟨.hbm, 144, rfl⟩
abbrev main_call5_call0_v4 : Ref sig .tc := ⟨.hbm, 145, rfl⟩
abbrev main_call5_call0_v5 : Ref sig .tc := ⟨.hbm, 146, rfl⟩
abbrev main_call5_call0_c : Ref sig .tc := ⟨.hbm, 147, rfl⟩
abbrev main_v47 : Ref sig .tc := ⟨.hbm, 148, rfl⟩
abbrev main_v48 : Ref sig .tc := ⟨.hbm, 149, rfl⟩
abbrev main_call6_call0_v0 : Ref sig .tc := ⟨.hbm, 150, rfl⟩
abbrev main_call6_call0_v1 : Ref sig .tc := ⟨.hbm, 151, rfl⟩
abbrev main_call6_call0_v2 : Ref sig .tc := ⟨.hbm, 152, rfl⟩
abbrev main_call6_call0_v3 : Ref sig .tc := ⟨.hbm, 153, rfl⟩
abbrev main_call6_call0_v4 : Ref sig .tc := ⟨.hbm, 154, rfl⟩
abbrev main_call6_call0_v5 : Ref sig .tc := ⟨.hbm, 155, rfl⟩
abbrev main_call6_call0_c : Ref sig .tc := ⟨.hbm, 156, rfl⟩
abbrev main_v49 : Ref sig .tc := ⟨.hbm, 157, rfl⟩
abbrev main_v50 : Ref sig .tc := ⟨.hbm, 158, rfl⟩
abbrev main_v51 : Ref sig .tc := ⟨.hbm, 159, rfl⟩
abbrev main_cst_8 : Ref sig .tc := ⟨.hbm, 160, rfl⟩
abbrev main_v52 : Ref sig .tc := ⟨.hbm, 161, rfl⟩
abbrev main_v53 : Ref sig .tc := ⟨.hbm, 162, rfl⟩
abbrev main_v54 : Ref sig .tc := ⟨.hbm, 163, rfl⟩
abbrev main_v55 : Ref sig .tc := ⟨.hbm, 164, rfl⟩
abbrev main_v56 : Ref sig .tc := ⟨.hbm, 165, rfl⟩
abbrev main_v57 : Ref sig .tc := ⟨.hbm, 166, rfl⟩
abbrev main_v58 : Ref sig .tc := ⟨.hbm, 167, rfl⟩
abbrev main_v59 : Ref sig .tc := ⟨.hbm, 168, rfl⟩
abbrev main_v60_0 : Ref sig .tc := ⟨.hbm, 169, rfl⟩
abbrev main_v60_1 : Ref sig .tc := ⟨.hbm, 170, rfl⟩
abbrev main_call7_c : Ref sig .tc := ⟨.hbm, 171, rfl⟩
abbrev main_call7_v0 : Ref sig .tc := ⟨.hbm, 172, rfl⟩
abbrev main_call7_v1 : Ref sig .tc := ⟨.hbm, 173, rfl⟩
abbrev main_call7_c_0 : Ref sig .tc := ⟨.hbm, 174, rfl⟩
abbrev main_call7_v2 : Ref sig .tc := ⟨.hbm, 175, rfl⟩
abbrev main_call7_v3 : Ref sig .tc := ⟨.hbm, 176, rfl⟩
abbrev main_call7_v4 : Ref sig .tc := ⟨.hbm, 177, rfl⟩
abbrev main_call7_v5 : Ref sig .tc := ⟨.hbm, 178, rfl⟩
abbrev main_call7_c_1 : Ref sig .tc := ⟨.hbm, 179, rfl⟩
abbrev main_call7_c_2 : Ref sig .tc := ⟨.hbm, 180, rfl⟩
abbrev main_call7_v6 : Ref sig .tc := ⟨.hbm, 181, rfl⟩
abbrev main_call7_v7 : Ref sig .tc := ⟨.hbm, 182, rfl⟩
abbrev main_call7_v8 : Ref sig .tc := ⟨.hbm, 183, rfl⟩
abbrev main_call7_v9 : Ref sig .tc := ⟨.hbm, 184, rfl⟩
abbrev main_call7_v10 : Ref sig .tc := ⟨.hbm, 185, rfl⟩
abbrev main_call7_v11 : Ref sig .tc := ⟨.hbm, 186, rfl⟩
abbrev main_call7_c_3 : Ref sig .tc := ⟨.hbm, 187, rfl⟩
abbrev main_call7_v12 : Ref sig .tc := ⟨.hbm, 188, rfl⟩
abbrev main_call7_v13 : Ref sig .tc := ⟨.hbm, 189, rfl⟩
abbrev main_call7_v14 : Ref sig .tc := ⟨.hbm, 190, rfl⟩
abbrev main_call7_cst : Ref sig .tc := ⟨.hbm, 191, rfl⟩
abbrev main_call7_v15 : Ref sig .tc := ⟨.hbm, 192, rfl⟩
abbrev main_v61 : Ref sig .tc := ⟨.hbm, 193, rfl⟩
abbrev main_cst_9 : Ref sig .tc := ⟨.hbm, 194, rfl⟩
abbrev main_v62 : Ref sig .tc := ⟨.hbm, 195, rfl⟩
abbrev main_v63 : Ref sig .tc := ⟨.hbm, 196, rfl⟩
abbrev main_v64 : Ref sig .tc := ⟨.hbm, 197, rfl⟩
abbrev main_v65 : Ref sig .tc := ⟨.hbm, 198, rfl⟩
abbrev main_c_10 : Ref sig .tc := ⟨.hbm, 199, rfl⟩
abbrev main_v66 : Ref sig .tc := ⟨.hbm, 200, rfl⟩
abbrev main_v67 : Ref sig .tc := ⟨.hbm, 201, rfl⟩
abbrev main_call8_call0_v0 : Ref sig .tc := ⟨.hbm, 202, rfl⟩
abbrev main_call8_call0_v1 : Ref sig .tc := ⟨.hbm, 203, rfl⟩
abbrev main_call8_call0_v2 : Ref sig .tc := ⟨.hbm, 204, rfl⟩
abbrev main_call8_call0_v3 : Ref sig .tc := ⟨.hbm, 205, rfl⟩
abbrev main_call8_call0_v4 : Ref sig .tc := ⟨.hbm, 206, rfl⟩
abbrev main_call8_call0_v5 : Ref sig .tc := ⟨.hbm, 207, rfl⟩
abbrev main_call8_call0_c : Ref sig .tc := ⟨.hbm, 208, rfl⟩
abbrev main_v68 : Ref sig .tc := ⟨.hbm, 209, rfl⟩
abbrev main_v69 : Ref sig .tc := ⟨.hbm, 210, rfl⟩
abbrev main_call9_call0_v0 : Ref sig .tc := ⟨.hbm, 211, rfl⟩
abbrev main_call9_call0_v1 : Ref sig .tc := ⟨.hbm, 212, rfl⟩
abbrev main_call9_call0_v2 : Ref sig .tc := ⟨.hbm, 213, rfl⟩
abbrev main_call9_call0_v3 : Ref sig .tc := ⟨.hbm, 214, rfl⟩
abbrev main_call9_call0_v4 : Ref sig .tc := ⟨.hbm, 215, rfl⟩
abbrev main_call9_call0_v5 : Ref sig .tc := ⟨.hbm, 216, rfl⟩
abbrev main_call9_call0_c : Ref sig .tc := ⟨.hbm, 217, rfl⟩
abbrev main_v70 : Ref sig .tc := ⟨.hbm, 218, rfl⟩
abbrev main_v71 : Ref sig .tc := ⟨.hbm, 219, rfl⟩
abbrev main_v72 : Ref sig .tc := ⟨.hbm, 220, rfl⟩
abbrev main_cst_11 : Ref sig .tc := ⟨.hbm, 221, rfl⟩
abbrev main_v73 : Ref sig .tc := ⟨.hbm, 222, rfl⟩
abbrev main_v74 : Ref sig .tc := ⟨.hbm, 223, rfl⟩
abbrev main_v75 : Ref sig .tc := ⟨.hbm, 224, rfl⟩
abbrev main_v76 : Ref sig .tc := ⟨.hbm, 225, rfl⟩
abbrev main_v77 : Ref sig .tc := ⟨.hbm, 226, rfl⟩
abbrev main_v78 : Ref sig .tc := ⟨.hbm, 227, rfl⟩
abbrev main_v79 : Ref sig .tc := ⟨.hbm, 228, rfl⟩
abbrev main_v80 : Ref sig .tc := ⟨.hbm, 229, rfl⟩
abbrev main_v81_0 : Ref sig .tc := ⟨.hbm, 230, rfl⟩
abbrev main_v81_1 : Ref sig .tc := ⟨.hbm, 231, rfl⟩
abbrev main_call10_c : Ref sig .tc := ⟨.hbm, 232, rfl⟩
abbrev main_call10_v0 : Ref sig .tc := ⟨.hbm, 233, rfl⟩
abbrev main_call10_v1 : Ref sig .tc := ⟨.hbm, 234, rfl⟩
abbrev main_call10_c_0 : Ref sig .tc := ⟨.hbm, 235, rfl⟩
abbrev main_call10_v2 : Ref sig .tc := ⟨.hbm, 236, rfl⟩
abbrev main_call10_v3 : Ref sig .tc := ⟨.hbm, 237, rfl⟩
abbrev main_call10_v4 : Ref sig .tc := ⟨.hbm, 238, rfl⟩
abbrev main_call10_v5 : Ref sig .tc := ⟨.hbm, 239, rfl⟩
abbrev main_call10_c_1 : Ref sig .tc := ⟨.hbm, 240, rfl⟩
abbrev main_call10_c_2 : Ref sig .tc := ⟨.hbm, 241, rfl⟩
abbrev main_call10_v6 : Ref sig .tc := ⟨.hbm, 242, rfl⟩
abbrev main_call10_v7 : Ref sig .tc := ⟨.hbm, 243, rfl⟩
abbrev main_call10_v8 : Ref sig .tc := ⟨.hbm, 244, rfl⟩
abbrev main_call10_v9 : Ref sig .tc := ⟨.hbm, 245, rfl⟩
abbrev main_call10_v10 : Ref sig .tc := ⟨.hbm, 246, rfl⟩
abbrev main_call10_v11 : Ref sig .tc := ⟨.hbm, 247, rfl⟩
abbrev main_call10_c_3 : Ref sig .tc := ⟨.hbm, 248, rfl⟩
abbrev main_call10_v12 : Ref sig .tc := ⟨.hbm, 249, rfl⟩
abbrev main_call10_v13 : Ref sig .tc := ⟨.hbm, 250, rfl⟩
abbrev main_call10_v14 : Ref sig .tc := ⟨.hbm, 251, rfl⟩
abbrev main_call10_cst : Ref sig .tc := ⟨.hbm, 252, rfl⟩
abbrev main_call10_v15 : Ref sig .tc := ⟨.hbm, 253, rfl⟩
abbrev main_v82 : Ref sig .tc := ⟨.hbm, 254, rfl⟩
abbrev main_cst_12 : Ref sig .tc := ⟨.hbm, 255, rfl⟩
abbrev main_v83 : Ref sig .tc := ⟨.hbm, 256, rfl⟩
abbrev main_v84 : Ref sig .tc := ⟨.hbm, 257, rfl⟩
abbrev main_v85 : Ref sig .tc := ⟨.hbm, 258, rfl⟩
abbrev main_v86 : Ref sig .tc := ⟨.hbm, 259, rfl⟩
abbrev main_c_13 : Ref sig .tc := ⟨.hbm, 260, rfl⟩
abbrev main_v87 : Ref sig .tc := ⟨.hbm, 261, rfl⟩
abbrev main_v88 : Ref sig .tc := ⟨.hbm, 262, rfl⟩
abbrev main_call11_call0_v0 : Ref sig .tc := ⟨.hbm, 263, rfl⟩
abbrev main_call11_call0_v1 : Ref sig .tc := ⟨.hbm, 264, rfl⟩
abbrev main_call11_call0_v2 : Ref sig .tc := ⟨.hbm, 265, rfl⟩
abbrev main_call11_call0_v3 : Ref sig .tc := ⟨.hbm, 266, rfl⟩
abbrev main_call11_call0_v4 : Ref sig .tc := ⟨.hbm, 267, rfl⟩
abbrev main_call11_call0_v5 : Ref sig .tc := ⟨.hbm, 268, rfl⟩
abbrev main_call11_call0_c : Ref sig .tc := ⟨.hbm, 269, rfl⟩
abbrev main_v89 : Ref sig .tc := ⟨.hbm, 270, rfl⟩
abbrev main_v90 : Ref sig .tc := ⟨.hbm, 271, rfl⟩
abbrev main_call12_call0_v0 : Ref sig .tc := ⟨.hbm, 272, rfl⟩
abbrev main_call12_call0_v1 : Ref sig .tc := ⟨.hbm, 273, rfl⟩
abbrev main_call12_call0_v2 : Ref sig .tc := ⟨.hbm, 274, rfl⟩
abbrev main_call12_call0_v3 : Ref sig .tc := ⟨.hbm, 275, rfl⟩
abbrev main_call12_call0_v4 : Ref sig .tc := ⟨.hbm, 276, rfl⟩
abbrev main_call12_call0_v5 : Ref sig .tc := ⟨.hbm, 277, rfl⟩
abbrev main_call12_call0_c : Ref sig .tc := ⟨.hbm, 278, rfl⟩
abbrev main_v91 : Ref sig .tc := ⟨.hbm, 279, rfl⟩
abbrev main_v92 : Ref sig .tc := ⟨.hbm, 280, rfl⟩
abbrev main_v93 : Ref sig .tc := ⟨.hbm, 281, rfl⟩
abbrev main_cst_14 : Ref sig .tc := ⟨.hbm, 282, rfl⟩
abbrev main_v94 : Ref sig .tc := ⟨.hbm, 283, rfl⟩
abbrev main_v95 : Ref sig .tc := ⟨.hbm, 284, rfl⟩
abbrev main_v96 : Ref sig .tc := ⟨.hbm, 285, rfl⟩
abbrev main_v97 : Ref sig .tc := ⟨.hbm, 286, rfl⟩
abbrev main_v98 : Ref sig .tc := ⟨.hbm, 287, rfl⟩
abbrev main_v99 : Ref sig .tc := ⟨.hbm, 288, rfl⟩
abbrev main_v100 : Ref sig .tc := ⟨.hbm, 289, rfl⟩
abbrev main_v101 : Ref sig .tc := ⟨.hbm, 290, rfl⟩
abbrev main_v102_0 : Ref sig .tc := ⟨.hbm, 291, rfl⟩
abbrev main_v102_1 : Ref sig .tc := ⟨.hbm, 292, rfl⟩
abbrev main_call13_c : Ref sig .tc := ⟨.hbm, 293, rfl⟩
abbrev main_call13_v0 : Ref sig .tc := ⟨.hbm, 294, rfl⟩
abbrev main_call13_v1 : Ref sig .tc := ⟨.hbm, 295, rfl⟩
abbrev main_call13_c_0 : Ref sig .tc := ⟨.hbm, 296, rfl⟩
abbrev main_call13_v2 : Ref sig .tc := ⟨.hbm, 297, rfl⟩
abbrev main_call13_v3 : Ref sig .tc := ⟨.hbm, 298, rfl⟩
abbrev main_call13_v4 : Ref sig .tc := ⟨.hbm, 299, rfl⟩
abbrev main_call13_v5 : Ref sig .tc := ⟨.hbm, 300, rfl⟩
abbrev main_call13_c_1 : Ref sig .tc := ⟨.hbm, 301, rfl⟩
abbrev main_call13_c_2 : Ref sig .tc := ⟨.hbm, 302, rfl⟩
abbrev main_call13_v6 : Ref sig .tc := ⟨.hbm, 303, rfl⟩
abbrev main_call13_v7 : Ref sig .tc := ⟨.hbm, 304, rfl⟩
abbrev main_call13_v8 : Ref sig .tc := ⟨.hbm, 305, rfl⟩
abbrev main_call13_v9 : Ref sig .tc := ⟨.hbm, 306, rfl⟩
abbrev main_call13_v10 : Ref sig .tc := ⟨.hbm, 307, rfl⟩
abbrev main_call13_v11 : Ref sig .tc := ⟨.hbm, 308, rfl⟩
abbrev main_call13_c_3 : Ref sig .tc := ⟨.hbm, 309, rfl⟩
abbrev main_call13_v12 : Ref sig .tc := ⟨.hbm, 310, rfl⟩
abbrev main_call13_v13 : Ref sig .tc := ⟨.hbm, 311, rfl⟩
abbrev main_call13_v14 : Ref sig .tc := ⟨.hbm, 312, rfl⟩
abbrev main_call13_cst : Ref sig .tc := ⟨.hbm, 313, rfl⟩
abbrev main_call13_v15 : Ref sig .tc := ⟨.hbm, 314, rfl⟩
abbrev main_v103 : Ref sig .tc := ⟨.hbm, 315, rfl⟩
abbrev main_cst_15 : Ref sig .tc := ⟨.hbm, 316, rfl⟩
abbrev main_v104 : Ref sig .tc := ⟨.hbm, 317, rfl⟩
abbrev main_v105 : Ref sig .tc := ⟨.hbm, 318, rfl⟩
abbrev main_v106 : Ref sig .tc := ⟨.hbm, 319, rfl⟩
abbrev main_v107 : Ref sig .tc := ⟨.hbm, 320, rfl⟩
abbrev main_c_16 : Ref sig .tc := ⟨.hbm, 321, rfl⟩
abbrev main_v108 : Ref sig .tc := ⟨.hbm, 322, rfl⟩
abbrev main_v109 : Ref sig .tc := ⟨.hbm, 323, rfl⟩
abbrev main_call14_call0_v0 : Ref sig .tc := ⟨.hbm, 324, rfl⟩
abbrev main_call14_call0_v1 : Ref sig .tc := ⟨.hbm, 325, rfl⟩
abbrev main_call14_call0_v2 : Ref sig .tc := ⟨.hbm, 326, rfl⟩
abbrev main_call14_call0_v3 : Ref sig .tc := ⟨.hbm, 327, rfl⟩
abbrev main_call14_call0_v4 : Ref sig .tc := ⟨.hbm, 328, rfl⟩
abbrev main_call14_call0_v5 : Ref sig .tc := ⟨.hbm, 329, rfl⟩
abbrev main_call14_call0_c : Ref sig .tc := ⟨.hbm, 330, rfl⟩
abbrev main_v110 : Ref sig .tc := ⟨.hbm, 331, rfl⟩
abbrev main_v111 : Ref sig .tc := ⟨.hbm, 332, rfl⟩
abbrev main_call15_call0_v0 : Ref sig .tc := ⟨.hbm, 333, rfl⟩
abbrev main_call15_call0_v1 : Ref sig .tc := ⟨.hbm, 334, rfl⟩
abbrev main_call15_call0_v2 : Ref sig .tc := ⟨.hbm, 335, rfl⟩
abbrev main_call15_call0_v3 : Ref sig .tc := ⟨.hbm, 336, rfl⟩
abbrev main_call15_call0_v4 : Ref sig .tc := ⟨.hbm, 337, rfl⟩
abbrev main_call15_call0_v5 : Ref sig .tc := ⟨.hbm, 338, rfl⟩
abbrev main_call15_call0_c : Ref sig .tc := ⟨.hbm, 339, rfl⟩
abbrev main_v112 : Ref sig .tc := ⟨.hbm, 340, rfl⟩
abbrev main_v113 : Ref sig .tc := ⟨.hbm, 341, rfl⟩
abbrev main_v114 : Ref sig .tc := ⟨.hbm, 342, rfl⟩
abbrev main_cst_17 : Ref sig .tc := ⟨.hbm, 343, rfl⟩
abbrev main_v115 : Ref sig .tc := ⟨.hbm, 344, rfl⟩
abbrev main_v116 : Ref sig .tc := ⟨.hbm, 345, rfl⟩
abbrev main_v117 : Ref sig .tc := ⟨.hbm, 346, rfl⟩
abbrev main_v118 : Ref sig .tc := ⟨.hbm, 347, rfl⟩
abbrev main_v119 : Ref sig .tc := ⟨.hbm, 348, rfl⟩
abbrev main_v120 : Ref sig .tc := ⟨.hbm, 349, rfl⟩
abbrev main_v121 : Ref sig .tc := ⟨.hbm, 350, rfl⟩
abbrev main_v122 : Ref sig .tc := ⟨.hbm, 351, rfl⟩
abbrev main_v123_0 : Ref sig .tc := ⟨.hbm, 352, rfl⟩
abbrev main_v123_1 : Ref sig .tc := ⟨.hbm, 353, rfl⟩
abbrev main_call16_c : Ref sig .tc := ⟨.hbm, 354, rfl⟩
abbrev main_call16_v0 : Ref sig .tc := ⟨.hbm, 355, rfl⟩
abbrev main_call16_v1 : Ref sig .tc := ⟨.hbm, 356, rfl⟩
abbrev main_call16_c_0 : Ref sig .tc := ⟨.hbm, 357, rfl⟩
abbrev main_call16_v2 : Ref sig .tc := ⟨.hbm, 358, rfl⟩
abbrev main_call16_v3 : Ref sig .tc := ⟨.hbm, 359, rfl⟩
abbrev main_call16_v4 : Ref sig .tc := ⟨.hbm, 360, rfl⟩
abbrev main_call16_v5 : Ref sig .tc := ⟨.hbm, 361, rfl⟩
abbrev main_call16_c_1 : Ref sig .tc := ⟨.hbm, 362, rfl⟩
abbrev main_call16_c_2 : Ref sig .tc := ⟨.hbm, 363, rfl⟩
abbrev main_call16_v6 : Ref sig .tc := ⟨.hbm, 364, rfl⟩
abbrev main_call16_v7 : Ref sig .tc := ⟨.hbm, 365, rfl⟩
abbrev main_call16_v8 : Ref sig .tc := ⟨.hbm, 366, rfl⟩
abbrev main_call16_v9 : Ref sig .tc := ⟨.hbm, 367, rfl⟩
abbrev main_call16_v10 : Ref sig .tc := ⟨.hbm, 368, rfl⟩
abbrev main_call16_v11 : Ref sig .tc := ⟨.hbm, 369, rfl⟩
abbrev main_call16_c_3 : Ref sig .tc := ⟨.hbm, 370, rfl⟩
abbrev main_call16_v12 : Ref sig .tc := ⟨.hbm, 371, rfl⟩
abbrev main_call16_v13 : Ref sig .tc := ⟨.hbm, 372, rfl⟩
abbrev main_call16_v14 : Ref sig .tc := ⟨.hbm, 373, rfl⟩
abbrev main_call16_cst : Ref sig .tc := ⟨.hbm, 374, rfl⟩
abbrev main_call16_v15 : Ref sig .tc := ⟨.hbm, 375, rfl⟩
abbrev main_v124 : Ref sig .tc := ⟨.hbm, 376, rfl⟩
abbrev main_cst_18 : Ref sig .tc := ⟨.hbm, 377, rfl⟩
abbrev main_v125 : Ref sig .tc := ⟨.hbm, 378, rfl⟩
abbrev main_v126 : Ref sig .tc := ⟨.hbm, 379, rfl⟩
abbrev main_v127 : Ref sig .tc := ⟨.hbm, 380, rfl⟩
abbrev main_v128 : Ref sig .tc := ⟨.hbm, 381, rfl⟩
abbrev main_c_19 : Ref sig .tc := ⟨.hbm, 382, rfl⟩
abbrev main_v129 : Ref sig .tc := ⟨.hbm, 383, rfl⟩
abbrev main_v130 : Ref sig .tc := ⟨.hbm, 384, rfl⟩
abbrev main_call17_call0_v0 : Ref sig .tc := ⟨.hbm, 385, rfl⟩
abbrev main_call17_call0_v1 : Ref sig .tc := ⟨.hbm, 386, rfl⟩
abbrev main_call17_call0_v2 : Ref sig .tc := ⟨.hbm, 387, rfl⟩
abbrev main_call17_call0_v3 : Ref sig .tc := ⟨.hbm, 388, rfl⟩
abbrev main_call17_call0_v4 : Ref sig .tc := ⟨.hbm, 389, rfl⟩
abbrev main_call17_call0_v5 : Ref sig .tc := ⟨.hbm, 390, rfl⟩
abbrev main_call17_call0_c : Ref sig .tc := ⟨.hbm, 391, rfl⟩
abbrev main_v131 : Ref sig .tc := ⟨.hbm, 392, rfl⟩
abbrev main_v132 : Ref sig .tc := ⟨.hbm, 393, rfl⟩
abbrev main_call18_call0_v0 : Ref sig .tc := ⟨.hbm, 394, rfl⟩
abbrev main_call18_call0_v1 : Ref sig .tc := ⟨.hbm, 395, rfl⟩
abbrev main_call18_call0_v2 : Ref sig .tc := ⟨.hbm, 396, rfl⟩
abbrev main_call18_call0_v3 : Ref sig .tc := ⟨.hbm, 397, rfl⟩
abbrev main_call18_call0_v4 : Ref sig .tc := ⟨.hbm, 398, rfl⟩
abbrev main_call18_call0_v5 : Ref sig .tc := ⟨.hbm, 399, rfl⟩
abbrev main_call18_call0_c : Ref sig .tc := ⟨.hbm, 400, rfl⟩
abbrev main_v133 : Ref sig .tc := ⟨.hbm, 401, rfl⟩
abbrev main_v134 : Ref sig .tc := ⟨.hbm, 402, rfl⟩
abbrev main_v135 : Ref sig .tc := ⟨.hbm, 403, rfl⟩
abbrev main_cst_20 : Ref sig .tc := ⟨.hbm, 404, rfl⟩
abbrev main_v136 : Ref sig .tc := ⟨.hbm, 405, rfl⟩
abbrev main_v137 : Ref sig .tc := ⟨.hbm, 406, rfl⟩
abbrev main_v138 : Ref sig .tc := ⟨.hbm, 407, rfl⟩
abbrev main_v139 : Ref sig .tc := ⟨.hbm, 408, rfl⟩
abbrev main_v140 : Ref sig .tc := ⟨.hbm, 409, rfl⟩
abbrev main_v141 : Ref sig .tc := ⟨.hbm, 410, rfl⟩
abbrev main_v142 : Ref sig .tc := ⟨.hbm, 411, rfl⟩
abbrev main_v143 : Ref sig .tc := ⟨.hbm, 412, rfl⟩
abbrev main_v144_0 : Ref sig .tc := ⟨.hbm, 413, rfl⟩
abbrev main_v144_1 : Ref sig .tc := ⟨.hbm, 414, rfl⟩
abbrev main_call19_c : Ref sig .tc := ⟨.hbm, 415, rfl⟩
abbrev main_call19_v0 : Ref sig .tc := ⟨.hbm, 416, rfl⟩
abbrev main_call19_v1 : Ref sig .tc := ⟨.hbm, 417, rfl⟩
abbrev main_call19_c_0 : Ref sig .tc := ⟨.hbm, 418, rfl⟩
abbrev main_call19_v2 : Ref sig .tc := ⟨.hbm, 419, rfl⟩
abbrev main_call19_v3 : Ref sig .tc := ⟨.hbm, 420, rfl⟩
abbrev main_call19_v4 : Ref sig .tc := ⟨.hbm, 421, rfl⟩
abbrev main_call19_v5 : Ref sig .tc := ⟨.hbm, 422, rfl⟩
abbrev main_call19_c_1 : Ref sig .tc := ⟨.hbm, 423, rfl⟩
abbrev main_call19_c_2 : Ref sig .tc := ⟨.hbm, 424, rfl⟩
abbrev main_call19_v6 : Ref sig .tc := ⟨.hbm, 425, rfl⟩
abbrev main_call19_v7 : Ref sig .tc := ⟨.hbm, 426, rfl⟩
abbrev main_call19_v8 : Ref sig .tc := ⟨.hbm, 427, rfl⟩
abbrev main_call19_v9 : Ref sig .tc := ⟨.hbm, 428, rfl⟩
abbrev main_call19_v10 : Ref sig .tc := ⟨.hbm, 429, rfl⟩
abbrev main_call19_v11 : Ref sig .tc := ⟨.hbm, 430, rfl⟩
abbrev main_call19_c_3 : Ref sig .tc := ⟨.hbm, 431, rfl⟩
abbrev main_call19_v12 : Ref sig .tc := ⟨.hbm, 432, rfl⟩
abbrev main_call19_v13 : Ref sig .tc := ⟨.hbm, 433, rfl⟩
abbrev main_call19_v14 : Ref sig .tc := ⟨.hbm, 434, rfl⟩
abbrev main_call19_cst : Ref sig .tc := ⟨.hbm, 435, rfl⟩
abbrev main_call19_v15 : Ref sig .tc := ⟨.hbm, 436, rfl⟩
abbrev main_v145 : Ref sig .tc := ⟨.hbm, 437, rfl⟩
abbrev main_cst_21 : Ref sig .tc := ⟨.hbm, 438, rfl⟩
abbrev main_v146 : Ref sig .tc := ⟨.hbm, 439, rfl⟩
abbrev main_v147 : Ref sig .tc := ⟨.hbm, 440, rfl⟩
abbrev main_v148 : Ref sig .tc := ⟨.hbm, 441, rfl⟩
abbrev main_v149 : Ref sig .tc := ⟨.hbm, 442, rfl⟩
abbrev main_c_22 : Ref sig .tc := ⟨.hbm, 443, rfl⟩
abbrev main_v150 : Ref sig .tc := ⟨.hbm, 444, rfl⟩
abbrev main_v151 : Ref sig .tc := ⟨.hbm, 445, rfl⟩
abbrev main_call20_call0_v0 : Ref sig .tc := ⟨.hbm, 446, rfl⟩
abbrev main_call20_call0_v1 : Ref sig .tc := ⟨.hbm, 447, rfl⟩
abbrev main_call20_call0_v2 : Ref sig .tc := ⟨.hbm, 448, rfl⟩
abbrev main_call20_call0_v3 : Ref sig .tc := ⟨.hbm, 449, rfl⟩
abbrev main_call20_call0_v4 : Ref sig .tc := ⟨.hbm, 450, rfl⟩
abbrev main_call20_call0_v5 : Ref sig .tc := ⟨.hbm, 451, rfl⟩
abbrev main_call20_call0_c : Ref sig .tc := ⟨.hbm, 452, rfl⟩
abbrev main_v152 : Ref sig .tc := ⟨.hbm, 453, rfl⟩
abbrev main_v153 : Ref sig .tc := ⟨.hbm, 454, rfl⟩
abbrev main_call21_call0_v0 : Ref sig .tc := ⟨.hbm, 455, rfl⟩
abbrev main_call21_call0_v1 : Ref sig .tc := ⟨.hbm, 456, rfl⟩
abbrev main_call21_call0_v2 : Ref sig .tc := ⟨.hbm, 457, rfl⟩
abbrev main_call21_call0_v3 : Ref sig .tc := ⟨.hbm, 458, rfl⟩
abbrev main_call21_call0_v4 : Ref sig .tc := ⟨.hbm, 459, rfl⟩
abbrev main_call21_call0_v5 : Ref sig .tc := ⟨.hbm, 460, rfl⟩
abbrev main_call21_call0_c : Ref sig .tc := ⟨.hbm, 461, rfl⟩
abbrev main_v154 : Ref sig .tc := ⟨.hbm, 462, rfl⟩
abbrev main_v155 : Ref sig .tc := ⟨.hbm, 463, rfl⟩
abbrev main_v156 : Ref sig .tc := ⟨.hbm, 464, rfl⟩
abbrev main_cst_23 : Ref sig .tc := ⟨.hbm, 465, rfl⟩
abbrev main_v157 : Ref sig .tc := ⟨.hbm, 466, rfl⟩
abbrev main_v158 : Ref sig .tc := ⟨.hbm, 467, rfl⟩
abbrev main_v159 : Ref sig .tc := ⟨.hbm, 468, rfl⟩
abbrev main_v160 : Ref sig .tc := ⟨.hbm, 469, rfl⟩
abbrev main_v161 : Ref sig .tc := ⟨.hbm, 470, rfl⟩
abbrev main_v162 : Ref sig .tc := ⟨.hbm, 471, rfl⟩
abbrev main_v163 : Ref sig .tc := ⟨.hbm, 472, rfl⟩
abbrev main_v164 : Ref sig .tc := ⟨.hbm, 473, rfl⟩
abbrev main_v165_0 : Ref sig .tc := ⟨.hbm, 474, rfl⟩
abbrev main_v165_1 : Ref sig .tc := ⟨.hbm, 475, rfl⟩
abbrev main_call22_c : Ref sig .tc := ⟨.hbm, 476, rfl⟩
abbrev main_call22_v0 : Ref sig .tc := ⟨.hbm, 477, rfl⟩
abbrev main_call22_v1 : Ref sig .tc := ⟨.hbm, 478, rfl⟩
abbrev main_call22_c_0 : Ref sig .tc := ⟨.hbm, 479, rfl⟩
abbrev main_call22_v2 : Ref sig .tc := ⟨.hbm, 480, rfl⟩
abbrev main_call22_v3 : Ref sig .tc := ⟨.hbm, 481, rfl⟩
abbrev main_call22_v4 : Ref sig .tc := ⟨.hbm, 482, rfl⟩
abbrev main_call22_v5 : Ref sig .tc := ⟨.hbm, 483, rfl⟩
abbrev main_call22_c_1 : Ref sig .tc := ⟨.hbm, 484, rfl⟩
abbrev main_call22_c_2 : Ref sig .tc := ⟨.hbm, 485, rfl⟩
abbrev main_call22_v6 : Ref sig .tc := ⟨.hbm, 486, rfl⟩
abbrev main_call22_v7 : Ref sig .tc := ⟨.hbm, 487, rfl⟩
abbrev main_call22_v8 : Ref sig .tc := ⟨.hbm, 488, rfl⟩
abbrev main_call22_v9 : Ref sig .tc := ⟨.hbm, 489, rfl⟩
abbrev main_call22_v10 : Ref sig .tc := ⟨.hbm, 490, rfl⟩
abbrev main_call22_v11 : Ref sig .tc := ⟨.hbm, 491, rfl⟩
abbrev main_call22_c_3 : Ref sig .tc := ⟨.hbm, 492, rfl⟩
abbrev main_call22_v12 : Ref sig .tc := ⟨.hbm, 493, rfl⟩
abbrev main_call22_v13 : Ref sig .tc := ⟨.hbm, 494, rfl⟩
abbrev main_call22_v14 : Ref sig .tc := ⟨.hbm, 495, rfl⟩
abbrev main_call22_cst : Ref sig .tc := ⟨.hbm, 496, rfl⟩
abbrev main_call22_v15 : Ref sig .tc := ⟨.hbm, 497, rfl⟩
abbrev main_v166 : Ref sig .tc := ⟨.hbm, 498, rfl⟩
abbrev main_cst_24 : Ref sig .tc := ⟨.hbm, 499, rfl⟩
abbrev main_v167 : Ref sig .tc := ⟨.hbm, 500, rfl⟩
abbrev main_v168 : Ref sig .tc := ⟨.hbm, 501, rfl⟩
abbrev main_v169 : Ref sig .tc := ⟨.hbm, 502, rfl⟩
abbrev main_v170 : Ref sig .tc := ⟨.hbm, 503, rfl⟩
abbrev main_c_25 : Ref sig .tc := ⟨.hbm, 504, rfl⟩
abbrev main_v171 : Ref sig .tc := ⟨.hbm, 505, rfl⟩
abbrev main_v172 : Ref sig .tc := ⟨.hbm, 506, rfl⟩
abbrev main_call23_call0_v0 : Ref sig .tc := ⟨.hbm, 507, rfl⟩
abbrev main_call23_call0_v1 : Ref sig .tc := ⟨.hbm, 508, rfl⟩
abbrev main_call23_call0_v2 : Ref sig .tc := ⟨.hbm, 509, rfl⟩
abbrev main_call23_call0_v3 : Ref sig .tc := ⟨.hbm, 510, rfl⟩
abbrev main_call23_call0_v4 : Ref sig .tc := ⟨.hbm, 511, rfl⟩
abbrev main_call23_call0_v5 : Ref sig .tc := ⟨.hbm, 512, rfl⟩
abbrev main_call23_call0_c : Ref sig .tc := ⟨.hbm, 513, rfl⟩
abbrev main_v173 : Ref sig .tc := ⟨.hbm, 514, rfl⟩
abbrev main_v174 : Ref sig .tc := ⟨.hbm, 515, rfl⟩
abbrev main_call24_call0_v0 : Ref sig .tc := ⟨.hbm, 516, rfl⟩
abbrev main_call24_call0_v1 : Ref sig .tc := ⟨.hbm, 517, rfl⟩
abbrev main_call24_call0_v2 : Ref sig .tc := ⟨.hbm, 518, rfl⟩
abbrev main_call24_call0_v3 : Ref sig .tc := ⟨.hbm, 519, rfl⟩
abbrev main_call24_call0_v4 : Ref sig .tc := ⟨.hbm, 520, rfl⟩
abbrev main_call24_call0_v5 : Ref sig .tc := ⟨.hbm, 521, rfl⟩
abbrev main_call24_call0_c : Ref sig .tc := ⟨.hbm, 522, rfl⟩
abbrev main_v175 : Ref sig .tc := ⟨.hbm, 523, rfl⟩
abbrev main_v176 : Ref sig .tc := ⟨.hbm, 524, rfl⟩
abbrev main_v177 : Ref sig .tc := ⟨.hbm, 525, rfl⟩
abbrev main_cst_26 : Ref sig .tc := ⟨.hbm, 526, rfl⟩
abbrev main_v178 : Ref sig .tc := ⟨.hbm, 527, rfl⟩
abbrev main_v179 : Ref sig .tc := ⟨.hbm, 528, rfl⟩
abbrev main_v180 : Ref sig .tc := ⟨.hbm, 529, rfl⟩
abbrev main_v181 : Ref sig .tc := ⟨.hbm, 530, rfl⟩
abbrev main_v182 : Ref sig .tc := ⟨.hbm, 531, rfl⟩
abbrev main_v183 : Ref sig .tc := ⟨.hbm, 532, rfl⟩
abbrev main_v184 : Ref sig .tc := ⟨.hbm, 533, rfl⟩
abbrev main_v185 : Ref sig .tc := ⟨.hbm, 534, rfl⟩
abbrev main_v186_0 : Ref sig .tc := ⟨.hbm, 535, rfl⟩
abbrev main_v186_1 : Ref sig .tc := ⟨.hbm, 536, rfl⟩
abbrev main_call25_c : Ref sig .tc := ⟨.hbm, 537, rfl⟩
abbrev main_call25_v0 : Ref sig .tc := ⟨.hbm, 538, rfl⟩
abbrev main_call25_v1 : Ref sig .tc := ⟨.hbm, 539, rfl⟩
abbrev main_call25_c_0 : Ref sig .tc := ⟨.hbm, 540, rfl⟩
abbrev main_call25_v2 : Ref sig .tc := ⟨.hbm, 541, rfl⟩
abbrev main_call25_v3 : Ref sig .tc := ⟨.hbm, 542, rfl⟩
abbrev main_call25_v4 : Ref sig .tc := ⟨.hbm, 543, rfl⟩
abbrev main_call25_v5 : Ref sig .tc := ⟨.hbm, 544, rfl⟩
abbrev main_call25_c_1 : Ref sig .tc := ⟨.hbm, 545, rfl⟩
abbrev main_call25_c_2 : Ref sig .tc := ⟨.hbm, 546, rfl⟩
abbrev main_call25_v6 : Ref sig .tc := ⟨.hbm, 547, rfl⟩
abbrev main_call25_v7 : Ref sig .tc := ⟨.hbm, 548, rfl⟩
abbrev main_call25_v8 : Ref sig .tc := ⟨.hbm, 549, rfl⟩
abbrev main_call25_v9 : Ref sig .tc := ⟨.hbm, 550, rfl⟩
abbrev main_call25_v10 : Ref sig .tc := ⟨.hbm, 551, rfl⟩
abbrev main_call25_v11 : Ref sig .tc := ⟨.hbm, 552, rfl⟩
abbrev main_call25_c_3 : Ref sig .tc := ⟨.hbm, 553, rfl⟩
abbrev main_call25_v12 : Ref sig .tc := ⟨.hbm, 554, rfl⟩
abbrev main_call25_v13 : Ref sig .tc := ⟨.hbm, 555, rfl⟩
abbrev main_call25_v14 : Ref sig .tc := ⟨.hbm, 556, rfl⟩
abbrev main_call25_cst : Ref sig .tc := ⟨.hbm, 557, rfl⟩
abbrev main_call25_v15 : Ref sig .tc := ⟨.hbm, 558, rfl⟩
abbrev main_v187 : Ref sig .tc := ⟨.hbm, 559, rfl⟩
abbrev main_cst_27 : Ref sig .tc := ⟨.hbm, 560, rfl⟩
abbrev main_v188 : Ref sig .tc := ⟨.hbm, 561, rfl⟩
abbrev main_v189 : Ref sig .tc := ⟨.hbm, 562, rfl⟩
abbrev main_v190 : Ref sig .tc := ⟨.hbm, 563, rfl⟩
abbrev main_v191 : Ref sig .tc := ⟨.hbm, 564, rfl⟩
abbrev main_c_28 : Ref sig .tc := ⟨.hbm, 565, rfl⟩
abbrev main_v192 : Ref sig .tc := ⟨.hbm, 566, rfl⟩
abbrev main_v193 : Ref sig .tc := ⟨.hbm, 567, rfl⟩
abbrev main_call26_call0_v0 : Ref sig .tc := ⟨.hbm, 568, rfl⟩
abbrev main_call26_call0_v1 : Ref sig .tc := ⟨.hbm, 569, rfl⟩
abbrev main_call26_call0_v2 : Ref sig .tc := ⟨.hbm, 570, rfl⟩
abbrev main_call26_call0_v3 : Ref sig .tc := ⟨.hbm, 571, rfl⟩
abbrev main_call26_call0_v4 : Ref sig .tc := ⟨.hbm, 572, rfl⟩
abbrev main_call26_call0_v5 : Ref sig .tc := ⟨.hbm, 573, rfl⟩
abbrev main_call26_call0_c : Ref sig .tc := ⟨.hbm, 574, rfl⟩
abbrev main_v194 : Ref sig .tc := ⟨.hbm, 575, rfl⟩
abbrev main_v195 : Ref sig .tc := ⟨.hbm, 576, rfl⟩
abbrev main_call27_call0_v0 : Ref sig .tc := ⟨.hbm, 577, rfl⟩
abbrev main_call27_call0_v1 : Ref sig .tc := ⟨.hbm, 578, rfl⟩
abbrev main_call27_call0_v2 : Ref sig .tc := ⟨.hbm, 579, rfl⟩
abbrev main_call27_call0_v3 : Ref sig .tc := ⟨.hbm, 580, rfl⟩
abbrev main_call27_call0_v4 : Ref sig .tc := ⟨.hbm, 581, rfl⟩
abbrev main_call27_call0_v5 : Ref sig .tc := ⟨.hbm, 582, rfl⟩
abbrev main_call27_call0_c : Ref sig .tc := ⟨.hbm, 583, rfl⟩
abbrev main_v196 : Ref sig .tc := ⟨.hbm, 584, rfl⟩
abbrev main_v197 : Ref sig .tc := ⟨.hbm, 585, rfl⟩
abbrev main_v198 : Ref sig .tc := ⟨.hbm, 586, rfl⟩
abbrev main_cst_29 : Ref sig .tc := ⟨.hbm, 587, rfl⟩
abbrev main_v199 : Ref sig .tc := ⟨.hbm, 588, rfl⟩
abbrev main_v200 : Ref sig .tc := ⟨.hbm, 589, rfl⟩
abbrev main_v201 : Ref sig .tc := ⟨.hbm, 590, rfl⟩
abbrev main_v202 : Ref sig .tc := ⟨.hbm, 591, rfl⟩
abbrev main_v203 : Ref sig .tc := ⟨.hbm, 592, rfl⟩
abbrev main_v204 : Ref sig .tc := ⟨.hbm, 593, rfl⟩
abbrev main_v205 : Ref sig .tc := ⟨.hbm, 594, rfl⟩
abbrev main_v206 : Ref sig .tc := ⟨.hbm, 595, rfl⟩
abbrev main_v207 : Ref sig .tc := ⟨.hbm, 596, rfl⟩
abbrev main_v208 : Ref sig .tc := ⟨.hbm, 597, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg2_0 : Ref sig .tc := ⟨.vmem, 48, rfl⟩
abbrev cc9_stg2_1 : Ref sig .tc := ⟨.vmem, 49, rfl⟩
abbrev cc10_stg0_0 : Ref sig .tc := ⟨.vmem, 50, rfl⟩
abbrev cc10_stg0_1 : Ref sig .tc := ⟨.vmem, 51, rfl⟩
abbrev cc10_stg1_0 : Ref sig .tc := ⟨.vmem, 52, rfl⟩
abbrev cc10_stg1_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem0_1 : DmaSem sig := 46
abbrev cc9_sem1_0 : DmaSem sig := 47
abbrev cc9_sem2_0 : DmaSem sig := 48
abbrev cc9_sem2_1 : DmaSem sig := 49
abbrev cc10_sem0_0 : DmaSem sig := 50
abbrev cc10_sem0_1 : DmaSem sig := 51
abbrev cc10_sem1_0 : DmaSem sig := 52
abbrev cc10_sem1_1 : DmaSem sig := 53

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x3 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S3x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x3 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S3x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x1 .i32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x3 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S3x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x1 .i32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x3 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S3x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x1 .i32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x3 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S3x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x1 .i32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x3 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S3x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S2000x1 .i32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x3 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S3x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S2000x1 .i32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨2, ![4, 25], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_1 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage10_0 : Fin 2 → Memref sig .tc .vmem S2000x1 .i32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![false, true]

abbrev stage10_1 : Fin 2 → Memref sig .tc .vmem S1x2000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, true]
-- ==== ReferenceIdeal.lean ====
abbrev S4x50000x128 : Shape := ⟨3, ![4, 50000, 128]⟩
abbrev S50000x3 : Shape := ⟨2, ![50000, 3]⟩
abbrev S_ : Shape := ⟨0, ![]⟩
abbrev S3 : Shape := ⟨1, ![3]⟩
abbrev S1x3 : Shape := ⟨2, ![1, 3]⟩
abbrev S128x3 : Shape := ⟨2, ![128, 3]⟩
abbrev S50000 : Shape := ⟨1, ![50000]⟩
abbrev S50000x1x3 : Shape := ⟨3, ![50000, 1, 3]⟩
abbrev S1x128x3 : Shape := ⟨3, ![1, 128, 3]⟩
abbrev S50000x128x3 : Shape := ⟨3, ![50000, 128, 3]⟩
abbrev S50000x128 : Shape := ⟨2, ![50000, 128]⟩
abbrev S50000x1 : Shape := ⟨2, ![50000, 1]⟩
abbrev S128 : Shape := ⟨1, ![128]⟩
abbrev S128x1 : Shape := ⟨2, ![128, 1]⟩
abbrev S50000x2 : Shape := ⟨2, ![50000, 2]⟩
abbrev S1x50000x128 : Shape := ⟨3, ![1, 50000, 128]⟩

abbrev nBuf : Space → Nat
  | .hbm => 340
  | .vmem => 0
  | .smem => 0
  | _ => 0

abbrev hbmTy0_0 (i : Nat) : BufTy := match i % 128 with
  | 0 => ⟨S4x50000x128, .f32⟩
  | 1 => ⟨S50000x3, .f32⟩
  | 2 => ⟨S_, .f32⟩
  | 3 => ⟨S3, .f32⟩
  | 4 => ⟨S_, .f32⟩
  | 5 => ⟨S3, .f32⟩
  | 6 => ⟨S3, .f32⟩
  | 7 => ⟨S_, .i32⟩
  | 8 => ⟨S_, .f32⟩
  | 9 => ⟨S3, .f32⟩
  | 10 => ⟨S1x3, .f32⟩
  | 11 => ⟨S_, .f32⟩
  | 12 => ⟨S1x3, .f32⟩
  | 13 => ⟨S1x3, .f32⟩
  | 14 => ⟨S50000x3, .f32⟩
  | 15 => ⟨S50000x3, .f32⟩
  | 16 => ⟨S50000x3, .f32⟩
  | 17 => ⟨S_, .f32⟩
  | 18 => ⟨S_, .f32⟩
  | 19 => ⟨S_, .f32⟩
  | 20 => ⟨S_, .f32⟩
  | 21 => ⟨S3, .f32⟩
  | 22 => ⟨S3, .f32⟩
  | 23 => ⟨S3, .f32⟩
  | 24 => ⟨S_, .f32⟩
  | 25 => ⟨S_, .i1⟩
  | 26 => ⟨S_, .f32⟩
  | 27 => ⟨S_, .f32⟩
  | 28 => ⟨S3, .f32⟩
  | 29 => ⟨S3, .f32⟩
  | 30 => ⟨S3, .f32⟩
  | 31 => ⟨S_, .f32⟩
  | 32 => ⟨S3, .f32⟩
  | 33 => ⟨S3, .f32⟩
  | 34 => ⟨S1x3, .f32⟩
  | 35 => ⟨S50000x3, .f32⟩
  | 36 => ⟨S50000x3, .f32⟩
  | 37 => ⟨S1x3, .f32⟩
  | 38 => ⟨S50000x3, .f32⟩
  | 39 => ⟨S50000x3, .f32⟩
  | 40 => ⟨S128x3, .f32⟩
  | 41 => ⟨S_, .f32⟩
  | 42 => ⟨S50000, .f32⟩
  | 43 => ⟨S_, .i32⟩
  | 44 => ⟨S50000, .i32⟩
  | 45 => ⟨S50000x1x3, .f32⟩
  | 46 => ⟨S1x128x3, .f32⟩
  | 47 => ⟨S50000x128x3, .f32⟩
  | 48 => ⟨S50000x128x3, .f32⟩
  | 49 => ⟨S50000x128x3, .f32⟩
  | 50 => ⟨S50000x128x3, .f32⟩
  | 51 => ⟨S_, .f32⟩
  | 52 => ⟨S50000x128, .f32⟩
  | 53 => ⟨S50000x128, .i32⟩
  | 54 => ⟨S_, .f32⟩
  | 55 => ⟨S_, .i32⟩
  | 56 => ⟨S50000, .f32⟩
  | 57 => ⟨S50000, .i32⟩
  | 58 => ⟨S_, .f32⟩
  | 59 => ⟨S128x3, .f32⟩
  | 60 => ⟨S50000x1, .i32⟩
  | 61 => ⟨S128x3, .f32⟩
  | 62 => ⟨S_, .f32⟩
  | 63 => ⟨S128, .f32⟩
  | 64 => ⟨S50000x1, .i32⟩
  | 65 => ⟨S128, .f32⟩
  | 66 => ⟨S_, .f32⟩
  | 67 => ⟨S128, .f32⟩
  | 68 => ⟨S128, .f32⟩
  | 69 => ⟨S128x1, .f32⟩
  | 70 => ⟨S128x3, .f32⟩
  | 71 => ⟨S128x3, .f32⟩
  | 72 => ⟨S50000x1x3, .f32⟩
  | 73 => ⟨S1x128x3, .f32⟩
  | 74 => ⟨S50000x128x3, .f32⟩
  | 75 => ⟨S50000x128x3, .f32⟩
  | 76 => ⟨S50000x128x3, .f32⟩
  | 77 => ⟨S50000x128x3, .f32⟩
  | 78 => ⟨S_, .f32⟩
  | 79 => ⟨S50000x128, .f32⟩
  | 80 => ⟨S50000x128, .i32⟩
  | 81 => ⟨S_, .f32⟩
  | 82 => ⟨S_, .i32⟩
  | 83 => ⟨S50000, .f32⟩
  | 84 => ⟨S50000, .i32⟩
  | 85 => ⟨S_, .f32⟩
  | 86 => ⟨S128x3, .f32⟩
  | 87 => ⟨S50000x1, .i32⟩
  | 88 => ⟨S128x3, .f32⟩
  | 89 => ⟨S_, .f32⟩
  | 90 => ⟨S128, .f32⟩
  | 91 => ⟨S50000x1, .i32⟩
  | 92 => ⟨S128, .f32⟩
  | 93 => ⟨S_, .f32⟩
  | 94 => ⟨S128, .f32⟩
  | 95 => ⟨S128, .f32⟩
  | 96 => ⟨S128x1, .f32⟩
  | 97 => ⟨S128x3, .f32⟩
  | 98 => ⟨S128x3, .f32⟩
  | 99 => ⟨S50000x1x3, .f32⟩
  | 100 => ⟨S1x128x3, .f32⟩
  | 101 => ⟨S50000x128x3, .f32⟩
  | 102 => ⟨S50000x128x3, .f32⟩
  | 103 => ⟨S50000x128x3, .f32⟩
  | 104 => ⟨S50000x128x3, .f32⟩
  | 105 => ⟨S_, .f32⟩
  | 106 => ⟨S50000x128, .f32⟩
  | 107 => ⟨S50000x128, .i32⟩
  | 108 => ⟨S_, .f32⟩
  | 109 => ⟨S_, .i32⟩
  | 110 => ⟨S50000, .f32⟩
  | 111 => ⟨S50000, .i32⟩
  | 112 => ⟨S_, .f32⟩
  | 113 => ⟨S128x3, .f32⟩
  | 114 => ⟨S50000x1, .i32⟩
  | 115 => ⟨S128x3, .f32⟩
  | 116 => ⟨S_, .f32⟩
  | 117 => ⟨S128, .f32⟩
  | 118 => ⟨S50000x1, .i32⟩
  | 119 => ⟨S128, .f32⟩
  | 120 => ⟨S_, .f32⟩
  | 121 => ⟨S128, .f32⟩
  | 122 => ⟨S128, .f32⟩
  | 123 => ⟨S128x1, .f32⟩
  | 124 => ⟨S128x3, .f32⟩
  | 125 => ⟨S128x3, .f32⟩
  | 126 => ⟨S50000x1x3, .f32⟩
  | 127 => ⟨S1x128x3, .f32⟩
  | _ => ⟨S4x50000x128, .f32⟩

abbrev hbmTy0_1 (i : Nat) : BufTy := match i % 128 with
  | 0 => ⟨S50000x128x3, .f32⟩
  | 1 => ⟨S50000x128x3, .f32⟩
  | 2 => ⟨S50000x128x3, .f32⟩
  | 3 => ⟨S50000x128x3, .f32⟩
  | 4 => ⟨S_, .f32⟩
  | 5 => ⟨S50000x128, .f32⟩
  | 6 => ⟨S50000x128, .i32⟩
  | 7 => ⟨S_, .f32⟩
  | 8 => ⟨S_, .i32⟩
  | 9 => ⟨S50000, .f32⟩
  | 10 => ⟨S50000, .i32⟩
  | 11 => ⟨S_, .f32⟩
  | 12 => ⟨S128x3, .f32⟩
  | 13 => ⟨S50000x1, .i32⟩
  | 14 => ⟨S128x3, .f32⟩
  | 15 => ⟨S_, .f32⟩
  | 16 => ⟨S128, .f32⟩
  | 17 => ⟨S50000x1, .i32⟩
  | 18 => ⟨S128, .f32⟩
  | 19 => ⟨S_, .f32⟩
  | 20 => ⟨S128, .f32⟩
  | 21 => ⟨S128, .f32⟩
  | 22 => ⟨S128x1, .f32⟩
  | 23 => ⟨S128x3, .f32⟩
  | 24 => ⟨S128x3, .f32⟩
  | 25 => ⟨S50000x1x3, .f32⟩
  | 26 => ⟨S1x128x3, .f32⟩
  | 27 => ⟨S50000x128x3, .f32⟩
  | 28 => ⟨S50000x128x3, .f32⟩
  | 29 => ⟨S50000x128x3, .f32⟩
  | 30 => ⟨S50000x128x3, .f32⟩
  | 31 => ⟨S_, .f32⟩
  | 32 => ⟨S50000x128, .f32⟩
  | 33 => ⟨S50000x128, .i32⟩
  | 34 => ⟨S_, .f32⟩
  | 35 => ⟨S_, .i32⟩
  | 36 => ⟨S50000, .f32⟩
  | 37 => ⟨S50000, .i32⟩
  | 38 => ⟨S_, .f32⟩
  | 39 => ⟨S128x3, .f32⟩
  | 40 => ⟨S50000x1, .i32⟩
  | 41 => ⟨S128x3, .f32⟩
  | 42 => ⟨S_, .f32⟩
  | 43 => ⟨S128, .f32⟩
  | 44 => ⟨S50000x1, .i32⟩
  | 45 => ⟨S128, .f32⟩
  | 46 => ⟨S_, .f32⟩
  | 47 => ⟨S128, .f32⟩
  | 48 => ⟨S128, .f32⟩
  | 49 => ⟨S128x1, .f32⟩
  | 50 => ⟨S128x3, .f32⟩
  | 51 => ⟨S128x3, .f32⟩
  | 52 => ⟨S50000x1x3, .f32⟩
  | 53 => ⟨S1x128x3, .f32⟩
  | 54 => ⟨S50000x128x3, .f32⟩
  | 55 => ⟨S50000x128x3, .f32⟩
  | 56 => ⟨S50000x128x3, .f32⟩
  | 57 => ⟨S50000x128x3, .f32⟩
  | 58 => ⟨S_, .f32⟩
  | 59 => ⟨S50000x128, .f32⟩
  | 60 => ⟨S50000x128, .i32⟩
  | 61 => ⟨S_, .f32⟩
  | 62 => ⟨S_, .i32⟩
  | 63 => ⟨S50000, .f32⟩
  | 64 => ⟨S50000, .i32⟩
  | 65 => ⟨S_, .f32⟩
  | 66 => ⟨S128x3, .f32⟩
  | 67 => ⟨S50000x1, .i32⟩
  | 68 => ⟨S128x3, .f32⟩
  | 69 => ⟨S_, .f32⟩
  | 70 => ⟨S128, .f32⟩
  | 71 => ⟨S50000x1, .i32⟩
  | 72 => ⟨S128, .f32⟩
  | 73 => ⟨S_, .f32⟩
  | 74 => ⟨S128, .f32⟩
  | 75 => ⟨S128, .f32⟩
  | 76 => ⟨S128x1, .f32⟩
  | 77 => ⟨S128x3, .f32⟩
  | 78 => ⟨S128x3, .f32⟩
  | 79 => ⟨S50000x1x3, .f32⟩
  | 80 => ⟨S1x128x3, .f32⟩
  | 81 => ⟨S50000x128x3, .f32⟩
  | 82 => ⟨S50000x128x3, .f32⟩
  | 83 => ⟨S50000x128x3, .f32⟩
  | 84 => ⟨S50000x128x3, .f32⟩
  | 85 => ⟨S_, .f32⟩
  | 86 => ⟨S50000x128, .f32⟩
  | 87 => ⟨S50000x128, .i32⟩
  | 88 => ⟨S_, .f32⟩
  | 89 => ⟨S_, .i32⟩
  | 90 => ⟨S50000, .f32⟩
  | 91 => ⟨S50000, .i32⟩
  | 92 => ⟨S_, .f32⟩
  | 93 => ⟨S128x3, .f32⟩
  | 94 => ⟨S50000x1, .i32⟩
  | 95 => ⟨S128x3, .f32⟩
  | 96 => ⟨S_, .f32⟩
  | 97 => ⟨S128, .f32⟩
  | 98 => ⟨S50000x1, .i32⟩
  | 99 => ⟨S128, .f32⟩
  | 100 => ⟨S_, .f32⟩
  | 101 => ⟨S128, .f32⟩
  | 102 => ⟨S128, .f32⟩
  | 103 => ⟨S128x1, .f32⟩
  | 104 => ⟨S128x3, .f32⟩
  | 105 => ⟨S128x3, .f32⟩
  | 106 => ⟨S50000x1x3, .f32⟩
  | 107 => ⟨S1x128x3, .f32⟩
  | 108 => ⟨S50000x128x3, .f32⟩
  | 109 => ⟨S50000x128x3, .f32⟩
  | 110 => ⟨S50000x128x3, .f32⟩
  | 111 => ⟨S50000x128x3, .f32⟩
  | 112 => ⟨S_, .f32⟩
  | 113 => ⟨S50000x128, .f32⟩
  | 114 => ⟨S50000x128, .i32⟩
  | 115 => ⟨S_, .f32⟩
  | 116 => ⟨S_, .i32⟩
  | 117 => ⟨S50000, .f32⟩
  | 118 => ⟨S50000, .i32⟩
  | 119 => ⟨S_, .f32⟩
  | 120 => ⟨S128x3, .f32⟩
  | 121 => ⟨S50000x1, .i32⟩
  | 122 => ⟨S128x3, .f32⟩
  | 123 => ⟨S_, .f32⟩
  | 124 => ⟨S128, .f32⟩
  | 125 => ⟨S50000x1, .i32⟩
  | 126 => ⟨S128, .f32⟩
  | 127 => ⟨S_, .f32⟩
  | _ => ⟨S4x50000x128, .f32⟩

abbrev hbmTy0_2 (i : Nat) : BufTy := match i % 128 with
  | 0 => ⟨S128, .f32⟩
  | 1 => ⟨S128, .f32⟩
  | 2 => ⟨S128x1, .f32⟩
  | 3 => ⟨S128x3, .f32⟩
  | 4 => ⟨S128x3, .f32⟩
  | 5 => ⟨S50000x1x3, .f32⟩
  | 6 => ⟨S1x128x3, .f32⟩
  | 7 => ⟨S50000x128x3, .f32⟩
  | 8 => ⟨S50000x128x3, .f32⟩
  | 9 => ⟨S50000x128x3, .f32⟩
  | 10 => ⟨S50000x128x3, .f32⟩
  | 11 => ⟨S_, .f32⟩
  | 12 => ⟨S50000x128, .f32⟩
  | 13 => ⟨S50000x128, .i32⟩
  | 14 => ⟨S_, .f32⟩
  | 15 => ⟨S_, .i32⟩
  | 16 => ⟨S50000, .f32⟩
  | 17 => ⟨S50000, .i32⟩
  | 18 => ⟨S_, .f32⟩
  | 19 => ⟨S128x3, .f32⟩
  | 20 => ⟨S50000x1, .i32⟩
  | 21 => ⟨S128x3, .f32⟩
  | 22 => ⟨S_, .f32⟩
  | 23 => ⟨S128, .f32⟩
  | 24 => ⟨S50000x1, .i32⟩
  | 25 => ⟨S128, .f32⟩
  | 26 => ⟨S_, .f32⟩
  | 27 => ⟨S128, .f32⟩
  | 28 => ⟨S128, .f32⟩
  | 29 => ⟨S128x1, .f32⟩
  | 30 => ⟨S128x3, .f32⟩
  | 31 => ⟨S128x3, .f32⟩
  | 32 => ⟨S50000x1x3, .f32⟩
  | 33 => ⟨S1x128x3, .f32⟩
  | 34 => ⟨S50000x128x3, .f32⟩
  | 35 => ⟨S50000x128x3, .f32⟩
  | 36 => ⟨S50000x128x3, .f32⟩
  | 37 => ⟨S50000x128x3, .f32⟩
  | 38 => ⟨S_, .f32⟩
  | 39 => ⟨S50000x128, .f32⟩
  | 40 => ⟨S50000x128, .i32⟩
  | 41 => ⟨S_, .f32⟩
  | 42 => ⟨S_, .i32⟩
  | 43 => ⟨S50000, .f32⟩
  | 44 => ⟨S50000, .i32⟩
  | 45 => ⟨S_, .f32⟩
  | 46 => ⟨S128x3, .f32⟩
  | 47 => ⟨S50000x1, .i32⟩
  | 48 => ⟨S128x3, .f32⟩
  | 49 => ⟨S_, .f32⟩
  | 50 => ⟨S128, .f32⟩
  | 51 => ⟨S50000x1, .i32⟩
  | 52 => ⟨S128, .f32⟩
  | 53 => ⟨S_, .f32⟩
  | 54 => ⟨S128, .f32⟩
  | 55 => ⟨S128, .f32⟩
  | 56 => ⟨S128x1, .f32⟩
  | 57 => ⟨S128x3, .f32⟩
  | 58 => ⟨S128x3, .f32⟩
  | 59 => ⟨S_, .f32⟩
  | 60 => ⟨S50000x128, .f32⟩
  | 61 => ⟨S50000, .i32⟩
  | 62 => ⟨S_, .i32⟩
  | 63 => ⟨S50000, .i32⟩
  | 64 => ⟨S50000, .i1⟩
  | 65 => ⟨S_, .i32⟩
  | 66 => ⟨S50000, .i32⟩
  | 67 => ⟨S50000, .i32⟩
  | 68 => ⟨S50000, .i32⟩
  | 69 => ⟨S_, .i32⟩
  | 70 => ⟨S50000, .i32⟩
  | 71 => ⟨S50000, .i1⟩
  | 72 => ⟨S_, .i32⟩
  | 73 => ⟨S50000, .i32⟩
  | 74 => ⟨S50000, .i32⟩
  | 75 => ⟨S50000, .i32⟩
  | 76 => ⟨S50000x1, .i32⟩
  | 77 => ⟨S50000x1, .i32⟩
  | 78 => ⟨S50000x2, .i32⟩
  | 79 => ⟨S_, .f32⟩
  | 80 => ⟨S50000, .f32⟩
  | 81 => ⟨S50000x128, .f32⟩
  | 82 => ⟨S1x50000x128, .f32⟩
  | 83 => ⟨S4x50000x128, .f32⟩
  | _ => ⟨S4x50000x128, .f32⟩

abbrev hbmTy (i : Nat) : BufTy := match i / 128 with
  | 0 => hbmTy0_0 i
  | 1 => hbmTy0_1 i
  | 2 => hbmTy0_2 i
  | _ => ⟨S4x50000x128, .f32⟩

abbrev bufTy : (tb : Table) → Fin (tcTables nBuf tb) → BufTy
  | .hbm, ⟨i, _⟩ => hbmTy i
  | _, _ => ⟨S4x50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_cst_0 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_cst_1 : Ref sig .tc := ⟨.hbm, 18, rfl⟩
abbrev main_call0_call0_v8 : Ref sig .tc := ⟨.hbm, 19, rfl⟩
abbrev main_call0_call0_cst_2 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_call0_cst_3 : Ref sig .tc := ⟨.hbm, 24, rfl⟩
abbrev main_call0_call0_v12 : Ref sig .tc := ⟨.hbm, 25, rfl⟩
abbrev main_call0_call0_cst_4 : Ref sig .tc := ⟨.hbm, 26, rfl⟩
abbrev main_call0_call0_call0_v0 : Ref sig .tc := ⟨.hbm, 27, rfl⟩
abbrev main_call0_call0_call0_v1 : Ref sig .tc := ⟨.hbm, 28, rfl⟩
abbrev main_call0_v0 : Ref sig .tc := ⟨.hbm, 29, rfl⟩
abbrev main_v3 : Ref sig .tc := ⟨.hbm, 30, rfl⟩
abbrev main_cst_1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_2 : Ref sig .tc := ⟨.hbm, 41, rfl⟩
abbrev main_v13 : Ref sig .tc := ⟨.hbm, 42, rfl⟩
abbrev main_c_3 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_4 : Ref sig .tc := ⟨.hbm, 51, rfl⟩
abbrev main_v21 : Ref sig .tc := ⟨.hbm, 52, rfl⟩
abbrev main_call1_v0 : Ref sig .tc := ⟨.hbm, 53, rfl⟩
abbrev main_call1_cst : Ref sig .tc := ⟨.hbm, 54, rfl⟩
abbrev main_call1_c : Ref sig .tc := ⟨.hbm, 55, rfl⟩
abbrev main_call1_v1_0 : Ref sig .tc := ⟨.hbm, 56, rfl⟩
abbrev main_v22 : Ref sig .tc := ⟨.hbm, 57, rfl⟩
abbrev main_cst_5 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_cst_6 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_cst_7 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_8 : Ref sig .tc := ⟨.hbm, 78, rfl⟩
abbrev main_v40 : Ref sig .tc := ⟨.hbm, 79, rfl⟩
abbrev main_call2_v0 : Ref sig .tc := ⟨.hbm, 80, rfl⟩
abbrev main_call2_cst : Ref sig .tc := ⟨.hbm, 81, rfl⟩
abbrev main_call2_c : Ref sig .tc := ⟨.hbm, 82, rfl⟩
abbrev main_call2_v1_0 : Ref sig .tc := ⟨.hbm, 83, rfl⟩
abbrev main_v41 : Ref sig .tc := ⟨.hbm, 84, rfl⟩
abbrev main_cst_9 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_cst_10 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_cst_11 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_12 : Ref sig .tc := ⟨.hbm, 105, rfl⟩
abbrev main_v59 : Ref sig .tc := ⟨.hbm, 106, rfl⟩
abbrev main_call3_v0 : Ref sig .tc := ⟨.hbm, 107, rfl⟩
abbrev main_call3_cst : Ref sig .tc := ⟨.hbm, 108, rfl⟩
abbrev main_call3_c : Ref sig .tc := ⟨.hbm, 109, rfl⟩
abbrev main_call3_v1_0 : Ref sig .tc := ⟨.hbm, 110, rfl⟩
abbrev main_v60 : Ref sig .tc := ⟨.hbm, 111, rfl⟩
abbrev main_cst_13 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_14 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_15 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_cst_16 : Ref sig .tc := ⟨.hbm, 132, rfl⟩
abbrev main_v78 : Ref sig .tc := ⟨.hbm, 133, rfl⟩
abbrev main_call4_v0 : Ref sig .tc := ⟨.hbm, 134, rfl⟩
abbrev main_call4_cst : Ref sig .tc := ⟨.hbm, 135, rfl⟩
abbrev main_call4_c : Ref sig .tc := ⟨.hbm, 136, rfl⟩
abbrev main_call4_v1_0 : Ref sig .tc := ⟨.hbm, 137, rfl⟩
abbrev main_v79 : Ref sig .tc := ⟨.hbm, 138, rfl⟩
abbrev main_cst_17 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_cst_18 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_cst_19 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_cst_20 : Ref sig .tc := ⟨.hbm, 159, rfl⟩
abbrev main_v97 : Ref sig .tc := ⟨.hbm, 160, rfl⟩
abbrev main_call5_v0 : Ref sig .tc := ⟨.hbm, 161, rfl⟩
abbrev main_call5_cst : Ref sig .tc := ⟨.hbm, 162, rfl⟩
abbrev main_call5_c : Ref sig .tc := ⟨.hbm, 163, rfl⟩
abbrev main_call5_v1_0 : Ref sig .tc := ⟨.hbm, 164, rfl⟩
abbrev main_v98 : Ref sig .tc := ⟨.hbm, 165, rfl⟩
abbrev main_cst_21 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_cst_22 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_cst_23 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_cst_24 : Ref sig .tc := ⟨.hbm, 186, rfl⟩
abbrev main_v116 : Ref sig .tc := ⟨.hbm, 187, rfl⟩
abbrev main_call6_v0 : Ref sig .tc := ⟨.hbm, 188, rfl⟩
abbrev main_call6_cst : Ref sig .tc := ⟨.hbm, 189, rfl⟩
abbrev main_call6_c : Ref sig .tc := ⟨.hbm, 190, rfl⟩
abbrev main_call6_v1_0 : Ref sig .tc := ⟨.hbm, 191, rfl⟩
abbrev main_v117 : Ref sig .tc := ⟨.hbm, 192, rfl⟩
abbrev main_cst_25 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_cst_26 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_cst_27 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_cst_28 : Ref sig .tc := ⟨.hbm, 213, rfl⟩
abbrev main_v135 : Ref sig .tc := ⟨.hbm, 214, rfl⟩
abbrev main_call7_v0 : Ref sig .tc := ⟨.hbm, 215, rfl⟩
abbrev main_call7_cst : Ref sig .tc := ⟨.hbm, 216, rfl⟩
abbrev main_call7_c : Ref sig .tc := ⟨.hbm, 217, rfl⟩
abbrev main_call7_v1_0 : Ref sig .tc := ⟨.hbm, 218, rfl⟩
abbrev main_v136 : Ref sig .tc := ⟨.hbm, 219, rfl⟩
abbrev main_cst_29 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_cst_30 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_cst_31 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_cst_32 : Ref sig .tc := ⟨.hbm, 240, rfl⟩
abbrev main_v154 : Ref sig .tc := ⟨.hbm, 241, rfl⟩
abbrev main_call8_v0 : Ref sig .tc := ⟨.hbm, 242, rfl⟩
abbrev main_call8_cst : Ref sig .tc := ⟨.hbm, 243, rfl⟩
abbrev main_call8_c : Ref sig .tc := ⟨.hbm, 244, rfl⟩
abbrev main_call8_v1_0 : Ref sig .tc := ⟨.hbm, 245, rfl⟩
abbrev main_v155 : Ref sig .tc := ⟨.hbm, 246, rfl⟩
abbrev main_cst_33 : Ref sig .tc := ⟨.hbm, 247, rfl⟩
abbrev main_v156 : Ref sig .tc := ⟨.hbm, 248, rfl⟩
abbrev main_v157 : Ref sig .tc := ⟨.hbm, 249, rfl⟩
abbrev main_v158 : Ref sig .tc := ⟨.hbm, 250, rfl⟩
abbrev main_cst_34 : Ref sig .tc := ⟨.hbm, 251, rfl⟩
abbrev main_v159 : Ref sig .tc := ⟨.hbm, 252, rfl⟩
abbrev main_v160 : Ref sig .tc := ⟨.hbm, 253, rfl⟩
abbrev main_v161 : Ref sig .tc := ⟨.hbm, 254, rfl⟩
abbrev main_cst_35 : Ref sig .tc := ⟨.hbm, 255, rfl⟩
abbrev main_v162 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_v166 : Ref sig .tc := ⟨.hbm, 260, rfl⟩
abbrev main_v167 : Ref sig .tc := ⟨.hbm, 261, rfl⟩
abbrev main_v168 : Ref sig .tc := ⟨.hbm, 262, rfl⟩
abbrev main_v169 : Ref sig .tc := ⟨.hbm, 263, rfl⟩
abbrev main_v170 : Ref sig .tc := ⟨.hbm, 264, rfl⟩
abbrev main_v171 : Ref sig .tc := ⟨.hbm, 265, rfl⟩
abbrev main_v172 : Ref sig .tc := ⟨.hbm, 266, rfl⟩
abbrev main_cst_36 : Ref sig .tc := ⟨.hbm, 267, rfl⟩
abbrev main_v173 : Ref sig .tc := ⟨.hbm, 268, rfl⟩
abbrev main_call9_v0 : Ref sig .tc := ⟨.hbm, 269, rfl⟩
abbrev main_call9_cst : Ref sig .tc := ⟨.hbm, 270, rfl⟩
abbrev main_call9_c : Ref sig .tc := ⟨.hbm, 271, rfl⟩
abbrev main_call9_v1_0 : Ref sig .tc := ⟨.hbm, 272, rfl⟩
abbrev main_v174 : Ref sig .tc := ⟨.hbm, 273, rfl⟩
abbrev main_cst_37 : Ref sig .tc := ⟨.hbm, 274, rfl⟩
abbrev main_v175 : Ref sig .tc := ⟨.hbm, 275, rfl⟩
abbrev main_v176 : Ref sig .tc := ⟨.hbm, 276, rfl⟩
abbrev main_v177 : Ref sig .tc := ⟨.hbm, 277, rfl⟩
abbrev main_cst_38 : Ref sig .tc := ⟨.hbm, 278, rfl⟩
abbrev main_v178 : Ref sig .tc := ⟨.hbm, 279, rfl⟩
abbrev main_v179 : Ref sig .tc := ⟨.hbm, 280, rfl⟩
abbrev main_v180 : Ref sig .tc := ⟨.hbm, 281, rfl⟩
abbrev main_cst_39 : Ref sig .tc := ⟨.hbm, 282, rfl⟩
abbrev main_v181 : Ref sig .tc := ⟨.hbm, 283, rfl⟩
abbrev main_v182 : Ref sig .tc := ⟨.hbm, 284, rfl⟩
abbrev main_v183 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_v187 : Ref sig .tc := ⟨.hbm, 289, rfl⟩
abbrev main_v188 : Ref sig .tc := ⟨.hbm, 290, rfl⟩
abbrev main_v189 : Ref sig .tc := ⟨.hbm, 291, rfl⟩
abbrev main_v190 : Ref sig .tc := ⟨.hbm, 292, rfl⟩
abbrev main_v191 : Ref sig .tc := ⟨.hbm, 293, rfl⟩
abbrev main_cst_40 : Ref sig .tc := ⟨.hbm, 294, rfl⟩
abbrev main_v192 : Ref sig .tc := ⟨.hbm, 295, rfl⟩
abbrev main_call10_v0 : Ref sig .tc := ⟨.hbm, 296, rfl⟩
abbrev main_call10_cst : Ref sig .tc := ⟨.hbm, 297, rfl⟩
abbrev main_call10_c : Ref sig .tc := ⟨.hbm, 298, rfl⟩
abbrev main_call10_v1_0 : Ref sig .tc := ⟨.hbm, 299, rfl⟩
abbrev main_v193 : Ref sig .tc := ⟨.hbm, 300, rfl⟩
abbrev main_cst_41 : Ref sig .tc := ⟨.hbm, 301, rfl⟩
abbrev main_v194 : Ref sig .tc := ⟨.hbm, 302, rfl⟩
abbrev main_v195 : Ref sig .tc := ⟨.hbm, 303, rfl⟩
abbrev main_v196 : Ref sig .tc := ⟨.hbm, 304, rfl⟩
abbrev main_cst_42 : Ref sig .tc := ⟨.hbm, 305, rfl⟩
abbrev main_v197 : Ref sig .tc := ⟨.hbm, 306, rfl⟩
abbrev main_v198 : Ref sig .tc := ⟨.hbm, 307, rfl⟩
abbrev main_v199 : Ref sig .tc := ⟨.hbm, 308, rfl⟩
abbrev main_cst_43 : Ref sig .tc := ⟨.hbm, 309, rfl⟩
abbrev main_v200 : Ref sig .tc := ⟨.hbm, 310, rfl⟩
abbrev main_v201 : Ref sig .tc := ⟨.hbm, 311, rfl⟩
abbrev main_v202 : Ref sig .tc := ⟨.hbm, 312, rfl⟩
abbrev main_v203 : Ref sig .tc := ⟨.hbm, 313, rfl⟩
abbrev main_v204 : Ref sig .tc := ⟨.hbm, 314, rfl⟩
abbrev main_cst_44 : Ref sig .tc := ⟨.hbm, 315, rfl⟩
abbrev main_v205 : Ref sig .tc := ⟨.hbm, 316, rfl⟩
abbrev main_v206 : Ref sig .tc := ⟨.hbm, 317, rfl⟩
abbrev main_c_45 : Ref sig .tc := ⟨.hbm, 318, rfl⟩
abbrev main_v207 : Ref sig .tc := ⟨.hbm, 319, rfl⟩
abbrev main_v208 : Ref sig .tc := ⟨.hbm, 320, rfl⟩
abbrev main_c_46 : Ref sig .tc := ⟨.hbm, 321, rfl⟩
abbrev main_v209 : Ref sig .tc := ⟨.hbm, 322, rfl⟩
abbrev main_v210 : Ref sig .tc := ⟨.hbm, 323, rfl⟩
abbrev main_v211 : Ref sig .tc := ⟨.hbm, 324, rfl⟩
abbrev main_c_47 : Ref sig .tc := ⟨.hbm, 325, rfl⟩
abbrev main_v212 : Ref sig .tc := ⟨.hbm, 326, rfl⟩
abbrev main_v213 : Ref sig .tc := ⟨.hbm, 327, rfl⟩
abbrev main_c_48 : Ref sig .tc := ⟨.hbm, 328, rfl⟩
abbrev main_v214 : Ref sig .tc := ⟨.hbm, 329, rfl⟩
abbrev main_v215 : Ref sig .tc := ⟨.hbm, 330, rfl⟩
abbrev main_v216 : Ref sig .tc := ⟨.hbm, 331, rfl⟩
abbrev main_v217 : Ref sig .tc := ⟨.hbm, 332, rfl⟩
abbrev main_v218 : Ref sig .tc := ⟨.hbm, 333, rfl⟩
abbrev main_v219 : Ref sig .tc := ⟨.hbm, 334, rfl⟩
abbrev main_cst_49 : Ref sig .tc := ⟨.hbm, 335, rfl⟩
abbrev main_v220 : Ref sig .tc := ⟨.hbm, 336, rfl⟩
abbrev main_v221 : Ref sig .tc := ⟨.hbm, 337, rfl⟩
abbrev main_v222 : Ref sig .tc := ⟨.hbm, 338, rfl⟩
abbrev main_v223 : Ref sig .tc := ⟨.hbm, 339, rfl⟩

abbrev nD : Nat := 1
abbrev τ : Topo := Topo.v7x

variable {F : FTy → Type} [FloatOps F]
-- ==== Proof.Argmin.lean ====
/-
  The index of the smallest of 128 extended reals, the first one on ties, and two ways of computing it:
  a left fold of "keep the smaller pair" over (value, index) pairs, and a minimum followed by the smallest
  index that attains it.
-/
module

public import Idealize.ShloMosaic.PureOps
public import Idealize.ShloMosaic.PureOps.Ideal.Laws

@[expose] public section

namespace Cert.KMeans

open Idealize.ShloMosaic

/-- `j` is the first index at which `f` is smallest. -/
def IsArgmin (f : Fin 128 → EReal) (j : Fin 128) : Prop := (∀ k, f j ≤ f k) ∧ ∀ k, k < j → f j < f k

/-- There is only one such index. -/
theorem IsArgmin.unique {f : Fin 128 → EReal} {i j : Fin 128} (hi : IsArgmin f i) (hj : IsArgmin f j) : i = j := by
  rcases lt_trichotomy i j with h | h | h
  · exact absurd (hj.2 i h) (not_lt.2 (hi.1 j))
  · exact h
  · exact absurd (hi.2 j h) (not_lt.2 (hj.1 i))

/-- There is one. -/
theorem exists_isArgmin (f : Fin 128 → EReal) : ∃ j, IsArgmin f j := by
  obtain ⟨m, hm⟩ := Finite.exists_min f
  classical
  let s : Finset (Fin 128) := Finset.univ.filter fun j => ∀ k, f j ≤ f k
  have hs : s.Nonempty := ⟨m, by simp [s, hm]⟩
  have hmem := s.min'_mem hs
  simp only [s, Finset.mem_filter, Finset.mem_univ, true_and] at hmem
  refine ⟨s.min' hs, hmem, fun k hk => lt_of_not_ge fun hle => ?_⟩
  have : k ∈ s := by simpa [s] using fun l => hle.trans (hmem l)
  exact absurd (s.min'_le k this) (not_le.2 hk)

/-- The first index at which `f` is smallest. -/
noncomputable def argmin (f : Fin 128 → EReal) : Fin 128 := (exists_isArgmin f).choose

theorem argmin_spec (f : Fin 128 → EReal) : IsArgmin f (argmin f) := (exists_isArgmin f).choose_spec

theorem IsArgmin.eq_argmin {f : Fin 128 → EReal} {j : Fin 128} (h : IsArgmin f j) : j = argmin f :=
  h.unique (argmin_spec f)

/-- Folding "keep the left one if its key is smaller, else the right one" over a list gives a member of the list
    or the start, and no key is below its key. -/
theorem foldl_keep {α β : Type*} [LinearOrder β] (key : α → β) (op : α → α → α)
    (hop : ∀ a b, op a b = if key a < key b then a else b) (L : List α) (p : α) :
    (L.foldl op p = p ∨ L.foldl op p ∈ L) ∧ key (L.foldl op p) ≤ key p ∧ ∀ q ∈ L, key (L.foldl op p) ≤ key q := by
  induction L generalizing p with
  | nil => simp
  | cons a L ih =>
    obtain ⟨h1, h2, h3⟩ := ih (op p a)
    have ha : key (op p a) ≤ key a := by rw [hop]; split_ifs with h; exacts [h.le, le_rfl]
    have hp : key (op p a) ≤ key p := by rw [hop]; split_ifs with h; exacts [le_rfl, not_lt.1 h]
    refine ⟨?_, h2.trans hp, ?_⟩
    · rw [List.foldl_cons]
      rcases h1 with h1 | h1
      · rw [h1, hop]; split_ifs <;> simp
      · exact .inr (List.mem_cons_of_mem _ h1)
    · intro q hq
      rcases List.mem_cons.1 hq with rfl | hq
      · exact h2.trans ha
      · exact h3 q hq

/-- A fold of an operation that picks one of its operands, never with the larger key, gives the start or one of the
    folded values, and no key is below its key. -/
theorem fold_pick {α β : Type*} [LinearOrder β] (key : α → β) (op : α → α → α) [Std.Commutative op] [Std.Associative op]
    (hop : ∀ a b, op a b = a ∨ op a b = b) (hl : ∀ a b, key (op a b) ≤ key a) (hr : ∀ a b, key (op a b) ≤ key b)
    {ι : Type*} (s : Finset ι) (g : ι → α) (p : α) :
    (s.fold op p g = p ∨ ∃ k ∈ s, s.fold op p g = g k) ∧ key (s.fold op p g) ≤ key p ∧
      ∀ k ∈ s, key (s.fold op p g) ≤ key (g k) := by
  classical
  induction s using Finset.induction_on with
  | empty => simp
  | insert a s ha ih =>
    obtain ⟨h1, h2, h3⟩ := ih
    rw [Finset.fold_insert ha]
    refine ⟨?_, (hr _ _).trans h2, ?_⟩
    · rcases hop (g a) (s.fold op p g) with h | h
      · exact .inr ⟨a, by simp, h⟩
      · rw [h]
        rcases h1 with h1 | ⟨k, hk, h1⟩
        · exact .inl h1
        · exact .inr ⟨k, by simp [hk], h1⟩
    · intro k hk
      rcases Finset.mem_insert.1 hk with rfl | hk
      · exact hl _ _
      · exact (hr _ _).trans (h3 k hk)

/-- An index below 128 as a 32-bit word, read back as a signed integer. -/
theorem toInt_ofNat_fin (k : Fin 128) : (BitVec.ofNat 32 k.val).toInt = (k.val : Int) := by
  rw [BitVec.toInt_eq_toNat_of_lt] <;> simp [BitVec.toNat_ofNat] <;> omega

/-- A list of pairs `(f k, k)`, all `k` present, folded from `(⊤, 0)` by "keep the pair that is smaller, first by value
    then by index", ends at the first index at which `f` is smallest. -/
theorem foldl_pairs (f : Fin 128 → EReal) (op : EReal × BitVec 32 → EReal × BitVec 32 → EReal × BitVec 32)
    (hop : ∀ a b, op a b = if a.1 < b.1 ∨ (a.1 = b.1 ∧ a.2.slt b.2) then a else b)
    (L : List (EReal × BitVec 32)) (p : EReal × BitVec 32) (hp : p = (⊤, 0#32))
    (hL : ∀ q, q ∈ L ↔ ∃ k : Fin 128, q = (f k, BitVec.ofNat 32 k.val)) :
    (L.foldl op p).2 = BitVec.ofNat 32 (argmin f).val := by
  subst hp
  obtain ⟨h1, h2, h3⟩ := foldl_keep (fun a : EReal × BitVec 32 => toLex (a.1, a.2.toInt)) op
    (fun a b => by rw [hop]; simp only [Prod.Lex.toLex_lt_toLex, BitVec.slt_iff_toInt_lt]) L (⊤, 0#32)
  have h4 : ∀ k : Fin 128, (L.foldl op (⊤, 0#32)).1 < f k ∨
      ((L.foldl op (⊤, 0#32)).1 = f k ∧ (L.foldl op (⊤, 0#32)).2.toInt ≤ (k.val : Int)) := fun k => by
    simpa only [Prod.Lex.toLex_le_toLex, toInt_ofNat_fin] using h3 (f k, BitVec.ofNat 32 k.val) ((hL _).2 ⟨k, rfl⟩)
  rcases h1 with h1 | h1
  · rw [h1] at h4 ⊢
    have h0 : IsArgmin f 0 := by
      have ht : ∀ k, f k = ⊤ := fun k => by
        rcases h4 k with h | h
        · exact absurd h not_top_lt
        · exact h.1.symm
      exact ⟨fun k => by rw [ht, ht], fun k hk => absurd hk (by simp)⟩
    rw [← h0.eq_argmin]; rfl
  · obtain ⟨j, hj⟩ := (hL _).1 h1
    rw [hj] at h4 ⊢
    have h0 : IsArgmin f j := by
      refine ⟨fun k => ?_, fun k hk => ?_⟩
      · rcases h4 k with h | h
        · exact h.le
        · exact h.1.le
      · rcases h4 k with h | h
        · exact h
        · have := h.2; rw [toInt_ofNat_fin] at this
          exact absurd this (by have : k.val < j.val := hk; omega)
    rw [← h0.eq_argmin]

/-- The smallest index among those at which `f` attains its minimum, where the others count as the largest word: the
    first index at which `f` is smallest. -/
theorem fold_min_index (f : Fin 128 → EReal) (g : Fin 128 → BitVec 32)
    (hg : ∀ k, g k = if f k = (Finset.univ : Finset (Fin 128)).fold min ⊤ f then BitVec.ofNat 32 k.val else 2147483647#32) :
    (Finset.univ : Finset (Fin 128)).fold IntOp.minsi 2147483647#32 g = BitVec.ofNat 32 (argmin f).val := by
  have hA := argmin_spec f
  have hm : (Finset.univ : Finset (Fin 128)).fold min ⊤ f = f (argmin f) := by
    obtain ⟨h1, -, h3⟩ := fold_pick id min min_choice min_le_left min_le_right (Finset.univ : Finset (Fin 128)) f ⊤
    apply le_antisymm (h3 _ (Finset.mem_univ _))
    rcases h1 with h1 | ⟨k, -, h1⟩
    · rw [h1]; exact le_top
    · rw [h1]; exact hA.1 k
  rw [hm] at hg
  have hop : ∀ a b : BitVec 32, IntOp.minsi a b = if a.toInt < b.toInt then a else b := fun a b => by
    simp only [IntOp.minsi, BitVec.slt_iff_toInt_lt]
  obtain ⟨h1, -, h3⟩ := fold_pick BitVec.toInt IntOp.minsi (fun a b => by rw [hop]; split_ifs <;> simp)
    (fun a b => by rw [hop]; split_ifs <;> omega) (fun a b => by rw [hop]; split_ifs <;> omega)
    (Finset.univ : Finset (Fin 128)) g 2147483647#32
  have h4 := h3 (argmin f) (Finset.mem_univ _)
  rw [hg (argmin f), if_pos rfl, toInt_ofNat_fin] at h4
  have hbig : (2147483647#32 : BitVec 32).toInt = 2147483647 := by decide
  have hlt := (argmin f).isLt
  rcases h1 with h1 | ⟨k, -, h1⟩
  · rw [h1, hbig] at h4; omega
  · rw [h1] at h4 ⊢
    rw [hg k] at h4 ⊢
    by_cases hk : f k = f (argmin f)
    · rw [if_pos hk] at h4 ⊢
      rw [toInt_ofNat_fin] at h4
      have : k = argmin f := by
        by_contra hne
        have : k < argmin f := lt_of_le_of_ne (by show k.val ≤ _; omega) hne
        exact absurd hk (hA.2 k this).ne'
      rw [this]
    · rw [if_neg hk, hbig] at h4; omega

end Cert.KMeans
-- ==== Proof.RefFns.lean ====
/-
  What one iteration of the reference computes, as functions of the points and the centroids: the squared distances, the
  labels, the updated centroids, and the final indicator array.
-/
module

public import proofs.«01_k».proof.Proof.Argmin
public import proofs.«01_k».proof.Proof.Gen.ReferenceIdeal
public import Idealize.ShloMosaic.Lib.Pipeline.ValueKit

@[expose] public section

set_option maxRecDepth 16384

noncomputable section

namespace Cert.KMeans

open Idealize.ShloMosaic
open Cert.ReferenceIdeal Cert.ReferenceIdeal.Facts₀

/-- The variance of every coordinate over the points. -/
def variance (x : FVec Ideal S50000x3 .f32) : FVec Ideal S3 .f32 :=
  select
    (broadcastInDim S3 ![] bcast_S_S3
      (cmpf .ogt (subf (constant (F := Ideal) S_ .f32 0x47435000#32) (sitofp .f32 (constantI S_ 32 0#32)))
        (constant S_ .f32 0x00000000#32)))
    (Host.divf
      (Host.reduceAdd
        (mulf
          (subf x (broadcastInDim S50000x3 ![0, 1] bcast_S1x3_S50000x3_0_1
            (Host.divf
              (broadcastInDim S1x3 ![1] bcast_S3_S1x3_1
                (Host.reduceAdd x (constant S_ .f32 0x00000000#32) reducesTo_S50000x3_S3_d0 h_S_))
              (broadcastInDim S1x3 ![] bcast_S_S1x3 (constant S_ .f32 0x47435000#32)))))
          (subf x (broadcastInDim S50000x3 ![0, 1] bcast_S1x3_S50000x3_0_1
            (Host.divf
              (broadcastInDim S1x3 ![1] bcast_S3_S1x3_1
                (Host.reduceAdd x (constant S_ .f32 0x00000000#32) reducesTo_S50000x3_S3_d0 h_S_))
              (broadcastInDim S1x3 ![] bcast_S_S1x3 (constant S_ .f32 0x47435000#32))))))
        (constant S_ .f32 0x00000000#32) reducesTo_S50000x3_S3_d0 h_S_)
      (broadcastInDim S3 ![] bcast_S_S3
        (subf (constant (F := Ideal) S_ .f32 0x47435000#32) (sitofp .f32 (constantI S_ 32 0#32)))))
    (broadcastInDim S3 ![] bcast_S_S3 (id (constant S_ .f32 0x7FC00000#32)))

/-- The points the iterations work on: every coordinate minus its mean, over its standard deviation plus a small
    number. -/
def normalized (x : FVec Ideal S50000x3 .f32) : FVec Ideal S50000x3 .f32 :=
  Host.divf
    (subf x (broadcastInDim S50000x3 ![0, 1] bcast_S1x3_S50000x3_0_1 (broadcastInDim S1x3 ![1] bcast_S3_S1x3_1
      (Host.divf (Host.reduceAdd x (constant S_ .f32 0x00000000#32) reducesTo_S50000x3_S3_d0 h_S_)
        (broadcastInDim S3 ![] bcast_S_S3 (constant S_ .f32 0x47435000#32))))))
    (broadcastInDim S50000x3 ![0, 1] bcast_S1x3_S50000x3_0_1 (broadcastInDim S1x3 ![1] bcast_S3_S1x3_1
      (addf (Host.sqrt (variance x)) (broadcastInDim S3 ![] bcast_S_S3 (constant S_ .f32 0x3727C5AC#32)))))

/-- The squared distance of every point to every centroid, as the reference computes it. -/
def refDist (cn : FVec Ideal S50000x3 .f32) (c : FVec Ideal S128x3 .f32) : FVec Ideal S50000x128 .f32 :=
  Host.reduceAdd
    (mulf
      (subf (broadcastInDim S50000x128x3 ![0, 1, 2] bcast_S50000x1x3_S50000x128x3_0_1_2
          (broadcastInDim S50000x1x3 ![0, 2] bcast_S50000x3_S50000x1x3_0_2 cn))
        (broadcastInDim S50000x128x3 ![0, 1, 2] bcast_S1x128x3_S50000x128x3_0_1_2
          (broadcastInDim S1x128x3 ![1, 2] bcast_S128x3_S1x128x3_1_2 c)))
      (subf (broadcastInDim S50000x128x3 ![0, 1, 2] bcast_S50000x1x3_S50000x128x3_0_1_2
          (broadcastInDim S50000x1x3 ![0, 2] bcast_S50000x3_S50000x1x3_0_2 cn))
        (broadcastInDim S50000x128x3 ![0, 1, 2] bcast_S1x128x3_S50000x128x3_0_1_2
          (broadcastInDim S1x128x3 ![1, 2] bcast_S128x3_S1x128x3_1_2 c))))
    (constant S_ .f32 0x00000000#32) reducesTo_S50000x128x3_S50000x128_d2 h_S_

/-- The second components of an array of pairs. -/
def second {ι α β : Type} (v : ι → α × β) : ι → β := fun j => (v j).2

theorem second_apply {ι α β : Type} (v : ι → α × β) (j : ι) : second v j = (v j).2 := rfl

/-- The labels the reference takes from the distances. -/
def refLab (D : FVec Ideal S50000x128 .f32) : IVec S50000 32 :=
  second (Host.argReduce reducer_argmin_f32_i32 D (iotaInDim S50000x128 32 1) (constant S_ .f32 0x7F800000#32)
    (constantI S_ 32 0#32) reducesTo_S50000x128_S50000_d1 h_S_)

/-- A vector of 50000 ones. -/
def refOnes : FVec Ideal S50000 .f32 :=
  broadcastInDim S50000 ![] bcast_S_S50000 (constant S_ .f32 0x3F800000#32)

/-- The centroids the reference takes from the labels: per label the sum of its points over the number of its points,
    the number at least one. -/
def refUpd (cn : FVec Ideal S50000x3 .f32) (l : IVec S50000 32) : FVec Ideal S128x3 .f32 :=
  Host.divf
    (Host.scatterAdd scatter_S128x3_S50000x1_S50000x3_1_0_0_1
      (broadcastInDim S128x3 ![] bcast_S_S128x3 (constant S_ .f32 0x00000000#32))
      (broadcastInDim S50000x1 ![0] bcast_S50000_S50000x1_0 l) cn)
    (broadcastInDim S128x3 ![0, 1] bcast_S128x1_S128x3_0_1
      (broadcastInDim S128x1 ![0] bcast_S128_S128x1_0
        (maximumf
          (Host.scatterAdd scatter_S128_S50000x1_S50000_n_0_0_1
            (broadcastInDim S128 ![] bcast_S_S128 (constant S_ .f32 0x00000000#32))
            (broadcastInDim S50000x1 ![0] bcast_S50000_S50000x1_0 l) refOnes)
          (broadcastInDim S128 ![] bcast_S_S128 (constant S_ .f32 0x3F800000#32)))))

/-- Two columns side by side. -/
def twoCols (a b : IVec S50000x1 32) : IVec S50000x2 32 :=
  concatenate S50000x2 1 [⟨S50000x1, a⟩, ⟨S50000x1, b⟩] concatenates_S50000x1_S50000x1_S50000x2_d1

/-- The indicator array the reference takes from the labels. -/
def refHot (l : IVec S50000 32) : FVec Ideal S4x50000x128 .f32 :=
  broadcastInDim S4x50000x128 ![0, 1, 2] bcast_S1x50000x128_S4x50000x128_0_1_2
    (broadcastInDim S1x50000x128 ![1, 2] bcast_S50000x128_S1x50000x128_1_2
      (Host.scatter scatter_S50000x128_S50000x2_S50000_n_01_01_1 (fun _ b => b)
        (broadcastInDim S50000x128 ![] bcast_S_S50000x128 (constant S_ .f32 0x00000000#32))
        (twoCols
          (broadcastInDim S50000x1 ![0] bcast_S50000_S50000x1_0
            (select (cmpi .slt (iotaInDim S50000 32 0) (broadcastInDim S50000 ![] bcast_S_S50000 (constantI S_ 32 0#32)))
              (addi (iotaInDim S50000 32 0) (broadcastInDim S50000 ![] bcast_S_S50000 (constantI S_ 32 50000#32)))
              (iotaInDim S50000 32 0)))
          (broadcastInDim S50000x1 ![0] bcast_S50000_S50000x1_0
            (select (cmpi .slt l (broadcastInDim S50000 ![] bcast_S_S50000 (constantI S_ 32 0#32)))
              (addi l (broadcastInDim S50000 ![] bcast_S_S50000 (constantI S_ 32 128#32))) l)))
        (broadcastInDim S50000 ![] bcast_S_S50000 (constant S_ .f32 0x3F800000#32))))

/-- The labels of an iteration from its centroids. -/
def refLabels (cn : FVec Ideal S50000x3 .f32) (c : FVec Ideal S128x3 .f32) : IVec S50000 32 := refLab (refDist cn c)

/-- The first centroids: the first 128 points. -/
def cents0 (cn : FVec Ideal S50000x3 .f32) : FVec Ideal S128x3 .f32 :=
  extractStridedSlice S128x3 ![0, 0] cn slices_S50000x3_S128x3_0_0

/-- The centroids after `n` iterations. -/
def refCents (cn : FVec Ideal S50000x3 .f32) : Nat → FVec Ideal S128x3 .f32
  | 0 => cents0 cn
  | n + 1 => refUpd cn (refLabels cn (refCents cn n))

/-- The squared distance of point `i` to centroid `k`. -/
def dist (cn : FVec Ideal S50000x3 .f32) (c : FVec Ideal S128x3 .f32) (i : Fin 50000) (k : Fin 128) : EReal :=
  ((cn (ix2 i 0) - c (ix2 k 0) : EReal) * (cn (ix2 i 0) - c (ix2 k 0) : EReal)
    + (cn (ix2 i 1) - c (ix2 k 1) : EReal) * (cn (ix2 i 1) - c (ix2 k 1) : EReal))
    + (cn (ix2 i 2) - c (ix2 k 2) : EReal) * (cn (ix2 i 2) - c (ix2 k 2) : EReal)

/-- The label of point `i`: the first centroid nearest to it. -/
def lab (cn : FVec Ideal S50000x3 .f32) (c : FVec Ideal S128x3 .f32) (i : Fin 50000) : Fin 128 := argmin (dist cn c i)

end Cert.KMeans
-- ==== Proof.RefLabels.lean ====
/-
  The reference's labels, read at a point: the first centroid nearest to it.
-/
module

public import proofs.«01_k».proof.Proof.RefFns

@[expose] public section

set_option maxRecDepth 16384

noncomputable section

namespace Cert.KMeans

open Idealize.ShloMosaic
open Cert.ReferenceIdeal Cert.ReferenceIdeal.Facts₀

/-- The reference's distances are the squared distances. -/
theorem refDist_apply (cn : FVec Ideal S50000x3 .f32) (c : FVec Ideal S128x3 .f32) (i : Fin 50000) (k : Fin 128) :
    refDist cn c (ix2 i k) = dist cn c i k := by
  unfold refDist dist
  rw [Host.reduceAdd]
  pointwise
  simp [Fin.sum_univ_three]

/-- The positive infinity word is the top of the extended reals. -/
theorem ofBits_infinity : Ideal.ofBits .f32 0x7F800000#32 = ⊤ := by simp [Ideal.ofBits, Ideal.ieee]

/-- The pairs a row's arg-min folds over are the row's values with their positions. -/
theorem mem_row_fiber (D : FVec Ideal S50000x128 .f32) (i : Fin 50000) (q : EReal × BitVec 32) :
    q ∈ Host.argReduceFiber (α := EReal) D (iotaInDim S50000x128 32 1) reducesTo_S50000x128_S50000_d1 (ix1 i) ↔
      ∃ k : Fin 128, q = (D (ix2 i k), BitVec.ofNat 32 k.val) := by
  simp only [Host.argReduceFiber, List.mem_map, List.mem_filter, List.mem_finRange, true_and, decide_eq_true_eq,
    Shape.ReducesTo.fiber_r2_a1]
  constructor
  · rintro ⟨n, ⟨k, hk⟩, rfl⟩
    exact ⟨k, by rw [← hk]; rfl⟩
  · rintro ⟨k, rfl⟩
    exact ⟨S50000x128.rowMajor (ix2 i k), ⟨k, by rw [Equiv.symm_apply_apply]; rfl⟩, by rw [Equiv.symm_apply_apply]; rfl⟩

/-- The body of the reference's arg-min keeps the smaller pair, first by value then by index. -/
theorem reducer_apply (a b : EReal × BitVec 32) :
    reducer_argmin_f32_i32 (F := Ideal) a b = if a.1 < b.1 ∨ (a.1 = b.1 ∧ a.2.slt b.2) then a else b := by
  obtain ⟨a1, a2⟩ := a
  obtain ⟨b1, b2⟩ := b
  have h : reducer_argmin_f32_i32 (F := Ideal) (a1, a2) (b1, b2) =
      (Scalar.select (IntOp.ori (Ideal.cmp .olt a1 b1) (Ideal.cmp .une a1 a1)) a1 b1,
        Scalar.select (IntOp.ori (IntOp.ori (Ideal.cmp .olt a1 b1) (Ideal.cmp .une a1 a1))
          (IntOp.andi (Ideal.cmp .oeq a1 b1) (IntOp.cmpi .slt a2 b2))) a2 b2) := rfl
  rw [h]
  have k1 : ∀ p u : Bool, (BitVec.ofBool p ||| BitVec.ofBool u) = 1 ↔ (p ∨ u) := by decide
  have k2 : ∀ p u e s : Bool, (BitVec.ofBool p ||| BitVec.ofBool u ||| BitVec.ofBool e &&& BitVec.ofBool s) = 1 ↔
      ((p ∨ u) ∨ (e ∧ s)) := by decide
  simp only [Ideal.cmp_olt, Ideal.cmp_une, Ideal.cmp_oeq, IntOp.cmpi, Scalar.select, IntOp.ori, IntOp.andi, k1, k2,
    decide_eq_true_eq, ne_eq, not_true_eq_false, or_false]
  by_cases h1 : a1 < b1
  · simp [h1]
  · by_cases h2 : a1 = b1
    · by_cases h3 : a2.slt b2 = true <;> simp [h1, h2, h3]
    · simp [h1, h2]

/-- The index a float arg-min returns is the one of the left fold over the fiber's pairs. -/
theorem second_argReduce {s t u : Shape} {axes : List (Fin s.rank)}
    (f : Ideal .f32 × BitVec 32 → Ideal .f32 × BitVec 32 → Ideal .f32 × BitVec 32) (x : FVec Ideal s .f32)
    (y : s.Idx → BitVec 32) (ix : u.Idx → Ideal .f32) (iy : u.Idx → BitVec 32) (h : s.ReducesTo axes t)
    (hu : 0 < u.numel) (j : t.Idx) :
    second (Host.argReduce f x y ix iy h hu) j
      = ((Host.argReduceFiber x y h j).foldl f (ix (Shape.Idx.first hu), iy (Shape.Idx.first hu))).2 := by
  rw [Ideal.argReduce_eq_reduce2, second_apply, Host.reduce2_eq_foldl_fiber]

/-- The first of the nearest, read off the distances of one point. -/
theorem refLab_apply (D : FVec Ideal S50000x128 .f32) (i : Fin 50000) :
    refLab D (ix1 i) = BitVec.ofNat 32 (argmin fun k => D (ix2 i k)).val := by
  delta refLab
  rw [second_argReduce]
  exact foldl_pairs (fun k => D (ix2 i k)) _ reducer_apply _ _ (Prod.ext ofBits_infinity rfl) (mem_row_fiber D i)

/-- The reference's labels are the first nearest centroids. -/
theorem refLabels_apply (cn : FVec Ideal S50000x3 .f32) (c : FVec Ideal S128x3 .f32) (i : Fin 50000) :
    refLabels cn c (ix1 i) = BitVec.ofNat 32 (lab cn c i).val := by
  have h : (fun k => refDist cn c (ix2 i k)) = dist cn c i := funext fun k => refDist_apply cn c i k
  unfold refLabels lab
  rw [refLab_apply, h]

end Cert.KMeans
-- ==== Proof.RefOps.lean ====
/-
  The reference's host program as one list of operations: a prefix that normalizes the points, ten iterations over
  buffers of their own, and a tail that writes the indicator array. `main` is the straight line of that list.
-/
module

public import proofs.«01_k».proof.Proof.RefLabels
public import Idealize.ShloMosaic.Lib.StableHlo.RunHlo
public import Idealize.ShloMosaic.Lib.Pipeline.Regions

@[expose] public section

set_option maxRecDepth 16384

noncomputable section

namespace Cert.KMeans.Ref

open Idealize.ShloMosaic Idealize.SL.Sem
open Cert.ReferenceIdeal Cert.ReferenceIdeal.Facts₀

/-- One operation of the reference's host program. -/
abbrev Op (F : FTy → Type) [FloatOps F] := HloOp τ sig (Elt F)

variable {F : FTy → Type} [FloatOps F]

/-- The call that replaces an undefined variance by a word that is no number. -/
abbrev whereOps (arg0 : StableHlo.TRef sig ⟨S_, .i1⟩) (arg1 : StableHlo.TRef sig ⟨S3, .f32⟩)
    (arg2 : StableHlo.TRef sig ⟨S_, .f32⟩) (φ : fn_where.Bufs) : List (Op F) := [
    StableHlo.TRef.unary arg2 φ.v0 id,
    StableHlo.TRef.unary φ.v0 φ.v1 (broadcastInDim S3 ![] bcast_S_S3),
    StableHlo.TRef.ternary arg0 arg1 φ.v1 φ.v2 (fun p a b => select (broadcastInDim S3 ![] bcast_S_S3 p) a b)]

/-- The variance of every coordinate over the points. -/
abbrev varOps (arg0 : StableHlo.TRef sig ⟨S50000x3, .f32⟩) (arg1 : StableHlo.TRef sig ⟨S_, .i32⟩)
    (φ : fn_var.Bufs) : List (Op F) := [
    StableHlo.TRef.nullary φ.cst (constant S_ .f32 0x00000000#32),
    StableHlo.TRef.binary arg0 φ.cst φ.v0 (fun x v => Host.reduceAdd x v reducesTo_S50000x3_S3_d0 h_S_),
    StableHlo.TRef.unary φ.v0 φ.v1 (broadcastInDim S1x3 ![1] bcast_S3_S1x3_1),
    StableHlo.TRef.nullary φ.cst_0 (constant S_ .f32 0x47435000#32),
    StableHlo.TRef.unary φ.cst_0 φ.v2 (broadcastInDim S1x3 ![] bcast_S_S1x3),
    StableHlo.TRef.binary φ.v1 φ.v2 φ.v3 Host.divf,
    StableHlo.TRef.unary φ.v3 φ.v4 (broadcastInDim S50000x3 ![0, 1] bcast_S1x3_S50000x3_0_1),
    StableHlo.TRef.binary arg0 φ.v4 φ.v5 subf,
    StableHlo.TRef.binary φ.v5 φ.v5 φ.v6 mulf,
    StableHlo.TRef.unary arg1 φ.v7 (sitofp .f32),
    StableHlo.TRef.nullary φ.cst_1 (constant S_ .f32 0x47435000#32),
    StableHlo.TRef.binary φ.cst_1 φ.v7 φ.v8 subf,
    StableHlo.TRef.nullary φ.cst_2 (constant S_ .f32 0x00000000#32),
    StableHlo.TRef.binary φ.v6 φ.cst_2 φ.v9 (fun x v => Host.reduceAdd x v reducesTo_S50000x3_S3_d0 h_S_),
    StableHlo.TRef.unary φ.v8 φ.v10 (broadcastInDim S3 ![] bcast_S_S3),
    StableHlo.TRef.binary φ.v9 φ.v10 φ.v11 Host.divf,
    StableHlo.TRef.nullary φ.cst_3 (constant S_ .f32 0x00000000#32),
    StableHlo.TRef.binary φ.v8 φ.cst_3 φ.v12 (cmpf .ogt),
    StableHlo.TRef.nullary φ.cst_4 (constant S_ .f32 0x7FC00000#32)]
    ++ whereOps φ.v12 φ.v11 φ.cst_4 φ.call0

/-- The standard deviation of every coordinate over the points. -/
abbrev stdOps (arg0 : StableHlo.TRef sig ⟨S50000x3, .f32⟩) (arg1 : StableHlo.TRef sig ⟨S_, .i32⟩)
    (φ : fn_std.Bufs) : List (Op F) := varOps arg0 arg1 φ.call0 ++ [
    StableHlo.TRef.unary φ.call0.call0.v2 φ.v1 Host.sqrt]

/-- The prefix: the points minus their mean, over their standard deviation. -/
abbrev preOps : List (Op F) := [
    StableHlo.nullary main_cst (constant S_ .f32 0x00000000#32),
    StableHlo.binary main_arg1 main_cst main_v0 ((fun x v => Host.reduceAdd x v reducesTo_S50000x3_S3_d0 h_S_) : (⟨S50000x3, .f32⟩ : BufTy).Contents (Elt F) → (⟨S_, .f32⟩ : BufTy).Contents (Elt F) → (⟨S3, .f32⟩ : BufTy).Contents (Elt F)),
    StableHlo.nullary main_cst_0 (constant S_ .f32 0x47435000#32),
    StableHlo.unary main_cst_0 main_v1 (broadcastInDim S3 ![] bcast_S_S3 : (⟨S_, .f32⟩ : BufTy).Contents (Elt F) → (⟨S3, .f32⟩ : BufTy).Contents (Elt F)),
    StableHlo.binary main_v0 main_v1 main_v2 (Host.divf : (⟨S3, .f32⟩ : BufTy).Contents (Elt F) → (⟨S3, .f32⟩ : BufTy).Contents (Elt F) → (⟨S3, .f32⟩ : BufTy).Contents (Elt F)),
    StableHlo.nullary main_c (constantI S_ 32 0#32)]
    ++ stdOps (.of main_arg1) (.of main_c) main_call0 ++ [
    StableHlo.nullary main_cst_1 (constant S_ .f32 0x3727C5AC#32),
    StableHlo.unary main_cst_1 main_v4 (broadcastInDim S3 ![] bcast_S_S3 : (⟨S_, .f32⟩ : BufTy).Contents (Elt F) → (⟨S3, .f32⟩ : BufTy).Contents (Elt F)),
    StableHlo.binary main_v3 main_v4 main_v5 (addf : (⟨S3, .f32⟩ : BufTy).Contents (Elt F) → (⟨S3, .f32⟩ : BufTy).Contents (Elt F) → (⟨S3, .f32⟩ : BufTy).Contents (Elt F)),
    StableHlo.unary main_v2 main_v6 (broadcastInDim S1x3 ![1] bcast_S3_S1x3_1 : (⟨S3, .f32⟩ : BufTy).Contents (Elt F) → (⟨S1x3, .f32⟩ : BufTy).Contents (Elt F)),
    StableHlo.unary main_v6 main_v7 (broadcastInDim S50000x3 ![0, 1] bcast_S1x3_S50000x3_0_1 : (⟨S1x3, .f32⟩ : BufTy).Contents (Elt F) → (⟨S50000x3, .f32⟩ : BufTy).Contents (Elt F)),
    StableHlo.binary main_arg1 main_v7 main_v8 (subf : (⟨S50000x3, .f32⟩ : BufTy).Contents (Elt F) → (⟨S50000x3, .f32⟩ : BufTy).Contents (Elt F) → (⟨S50000x3, .f32⟩ : BufTy).Contents (Elt F)),
    StableHlo.unary main_v5 main_v9 (broadcastInDim S1x3 ![1] bcast_S3_S1x3_1 : (⟨S3, .f32⟩ : BufTy).Contents (Elt F) → (⟨S1x3, .f32⟩ : BufTy).Contents (Elt F)),
    StableHlo.unary main_v9 main_v10 (broadcastInDim S50000x3 ![0, 1] bcast_S1x3_S50000x3_0_1 : (⟨S1x3, .f32⟩ : BufTy).Contents (Elt F) → (⟨S50000x3, .f32⟩ : BufTy).Contents (Elt F)),
    StableHlo.binary main_v8 main_v10 main_v11 (Host.divf : (⟨S50000x3, .f32⟩ : BufTy).Contents (Elt F) → (⟨S50000x3, .f32⟩ : BufTy).Contents (Elt F) → (⟨S50000x3, .f32⟩ : BufTy).Contents (Elt F)),
    StableHlo.unary main_v11 main_v12 ((extractStridedSlice S128x3 ![0, 0] · slices_S50000x3_S128x3_0_0) : (⟨S50000x3, .f32⟩ : BufTy).Contents (Elt F) → (⟨S128x3, .f32⟩ : BufTy).Contents (Elt F)),
    StableHlo.nullary main_cst_2 (constant S_ .f32 0x3F800000#32),
    StableHlo.unary main_cst_2 main_v13 (broadcastInDim S50000 ![] bcast_S_S50000 : (⟨S_, .f32⟩ : BufTy).Contents (Elt F) → (⟨S50000, .f32⟩ : BufTy).Contents (Elt F)),
    StableHlo.nullary main_c_3 (constantI S_ 32 0#32),
    StableHlo.unary main_c_3 main_v14 (broadcastInDim S50000 ![] bcast_S_S50000 : (⟨S_, .i32⟩ : BufTy).Contents (Elt F) → (⟨S50000, .i32⟩ : BufTy).Contents (Elt F))]

/-- The buffers of one iteration. -/
structure IterBufs where
  ci : StableHlo.TRef sig ⟨S128x3, .f32⟩
  p : StableHlo.TRef sig ⟨S50000x1x3, .f32⟩
  q : StableHlo.TRef sig ⟨S1x128x3, .f32⟩
  pb : StableHlo.TRef sig ⟨S50000x128x3, .f32⟩
  qb : StableHlo.TRef sig ⟨S50000x128x3, .f32⟩
  df : StableHlo.TRef sig ⟨S50000x128x3, .f32⟩
  sq : StableHlo.TRef sig ⟨S50000x128x3, .f32⟩
  z0 : StableHlo.TRef sig ⟨S_, .f32⟩
  ds : StableHlo.TRef sig ⟨S50000x128, .f32⟩
  am : fn_argmin.Bufs
  z1 : StableHlo.TRef sig ⟨S_, .f32⟩
  zs : StableHlo.TRef sig ⟨S128x3, .f32⟩
  l1 : StableHlo.TRef sig ⟨S50000x1, .i32⟩
  sm : StableHlo.TRef sig ⟨S128x3, .f32⟩
  z2 : StableHlo.TRef sig ⟨S_, .f32⟩
  zc : StableHlo.TRef sig ⟨S128, .f32⟩
  l2 : StableHlo.TRef sig ⟨S50000x1, .i32⟩
  ct : StableHlo.TRef sig ⟨S128, .f32⟩
  o1 : StableHlo.TRef sig ⟨S_, .f32⟩
  ob : StableHlo.TRef sig ⟨S128, .f32⟩
  mx : StableHlo.TRef sig ⟨S128, .f32⟩
  m1 : StableHlo.TRef sig ⟨S128x1, .f32⟩
  mb : StableHlo.TRef sig ⟨S128x3, .f32⟩
  co : StableHlo.TRef sig ⟨S128x3, .f32⟩

/-! The buffers of the ten iterations. -/
abbrev bufs0 : IterBufs :=
  ⟨.of main_v12, .of main_v15, .of main_v16, .of main_v17, .of main_v18, .of main_v19, .of main_v20, .of
    main_cst_4, .of main_v21, main_call1, .of main_cst_5, .of main_v23, .of main_v24, .of main_v25, .of
    main_cst_6, .of main_v26, .of main_v27, .of main_v28, .of main_cst_7, .of main_v29, .of main_v30, .of
    main_v31, .of main_v32, .of main_v33⟩
abbrev bufs1 : IterBufs :=
  ⟨.of main_v33, .of main_v34, .of main_v35, .of main_v36, .of main_v37, .of main_v38, .of main_v39, .of
    main_cst_8, .of main_v40, main_call2, .of main_cst_9, .of main_v42, .of main_v43, .of main_v44, .of
    main_cst_10, .of main_v45, .of main_v46, .of main_v47, .of main_cst_11, .of main_v48, .of main_v49, .of
    main_v50, .of main_v51, .of main_v52⟩
abbrev bufs2 : IterBufs :=
  ⟨.of main_v52, .of main_v53, .of main_v54, .of main_v55, .of main_v56, .of main_v57, .of main_v58, .of
    main_cst_12, .of main_v59, main_call3, .of main_cst_13, .of main_v61, .of main_v62, .of main_v63, .of
    main_cst_14, .of main_v64, .of main_v65, .of main_v66, .of main_cst_15, .of main_v67, .of main_v68, .of
    main_v69, .of main_v70, .of main_v71⟩
abbrev bufs3 : IterBufs :=
  ⟨.of main_v71, .of main_v72, .of main_v73, .of main_v74, .of main_v75, .of main_v76, .of main_v77, .of
    main_cst_16, .of main_v78, main_call4, .of main_cst_17, .of main_v80, .of main_v81, .of main_v82, .of
    main_cst_18, .of main_v83, .of main_v84, .of main_v85, .of main_cst_19, .of main_v86, .of main_v87, .of
    main_v88, .of main_v89, .of main_v90⟩
abbrev bufs4 : IterBufs :=
  ⟨.of main_v90, .of main_v91, .of main_v92, .of main_v93, .of main_v94, .of main_v95, .of main_v96, .of
    main_cst_20, .of main_v97, main_call5, .of main_cst_21, .of main_v99, .of main_v100, .of main_v101, .of
    main_cst_22, .of main_v102, .of main_v103, .of main_v104, .of main_cst_23, .of main_v105, .of main_v106,
    .of main_v107, .of main_v108, .of main_v109⟩
abbrev bufs5 : IterBufs :=
  ⟨.of main_v109, .of main_v110, .of main_v111, .of main_v112, .of main_v113, .of main_v114, .of main_v115,
    .of main_cst_24, .of main_v116, main_call6, .of main_cst_25, .of main_v118, .of main_v119, .of main_v120,
    .of main_cst_26, .of main_v121, .of main_v122, .of main_v123, .of main_cst_27, .of main_v124, .of
    main_v125, .of main_v126, .of main_v127, .of main_v128⟩
abbrev bufs6 : IterBufs :=
  ⟨.of main_v128, .of main_v129, .of main_v130, .of main_v131, .of main_v132, .of main_v133, .of main_v134,
    .of main_cst_28, .of main_v135, main_call7, .of main_cst_29, .of main_v137, .of main_v138, .of main_v139,
    .of main_cst_30, .of main_v140, .of main_v141, .of main_v142, .of main_cst_31, .of main_v143, .of
    main_v144, .of main_v145, .of main_v146, .of main_v147⟩
abbrev bufs7 : IterBufs :=
  ⟨.of main_v147, .of main_v148, .of main_v149, .of main_v150, .of main_v151, .of main_v152, .of main_v153,
    .of main_cst_32, .of main_v154, main_call8, .of main_cst_33, .of main_v156, .of main_v157, .of main_v158,
    .of main_cst_34, .of main_v159, .of main_v160, .of main_v161, .of main_cst_35, .of main_v162, .of
    main_v163, .of main_v164, .of main_v165, .of main_v166⟩
abbrev bufs8 : IterBufs :=
  ⟨.of main_v166, .of main_v167, .of main_v168, .of main_v169, .of main_v170, .of main_v171, .of main_v172,
    .of main_cst_36, .of main_v173, main_call9, .of main_cst_37, .of main_v175, .of main_v176, .of main_v177,
    .of main_cst_38, .of main_v178, .of main_v179, .of main_v180, .of main_cst_39, .of main_v181, .of
    main_v182, .of main_v183, .of main_v184, .of main_v185⟩
abbrev bufs9 : IterBufs :=
  ⟨.of main_v185, .of main_v186, .of main_v187, .of main_v188, .of main_v189, .of main_v190, .of main_v191,
    .of main_cst_40, .of main_v192, main_call10, .of main_cst_41, .of main_v194, .of main_v195, .of main_v196,
    .of main_cst_42, .of main_v197, .of main_v198, .of main_v199, .of main_cst_43, .of main_v200, .of
    main_v201, .of main_v202, .of main_v203, .of main_v204⟩

/-- The buffers of iteration `t`, from zero. -/
def iterBufs : Nat → IterBufs
  | 0 => bufs0
  | 1 => bufs1
  | 2 => bufs2
  | 3 => bufs3
  | 4 => bufs4
  | 5 => bufs5
  | 6 => bufs6
  | 7 => bufs7
  | 8 => bufs8
  | _ => bufs9

/-- Iteration `t` has one of the ten sets of buffers. -/
theorem iterBufs_eq (t : Nat) (ht : t < 10) : iterBufs t = bufs0 ∨ iterBufs t = bufs1 ∨ iterBufs t = bufs2 ∨
    iterBufs t = bufs3 ∨ iterBufs t = bufs4 ∨ iterBufs t = bufs5 ∨ iterBufs t = bufs6 ∨ iterBufs t = bufs7 ∨
    iterBufs t = bufs8 ∨ iterBufs t = bufs9 := by
  interval_cases t
  exacts [.inl rfl, .inr (.inl rfl), .inr (.inr (.inl rfl)), .inr (.inr (.inr (.inl rfl))),
    .inr (.inr (.inr (.inr (.inl rfl)))), .inr (.inr (.inr (.inr (.inr (.inl rfl))))),
    .inr (.inr (.inr (.inr (.inr (.inr (.inl rfl)))))), .inr (.inr (.inr (.inr (.inr (.inr (.inr (.inl rfl))))))),
    .inr (.inr (.inr (.inr (.inr (.inr (.inr (.inr (.inl rfl)))))))),
    .inr (.inr (.inr (.inr (.inr (.inr (.inr (.inr (.inr rfl))))))))]

/-- The first half of an iteration: distances and labels. -/
abbrev labOps (b : IterBufs) : List (Op F) := [
    StableHlo.TRef.unary (.of main_v11 : StableHlo.TRef sig ⟨S50000x3, .f32⟩) b.p (broadcastInDim S50000x1x3 ![0, 2] bcast_S50000x3_S50000x1x3_0_2),
    StableHlo.TRef.unary b.ci b.q (broadcastInDim S1x128x3 ![1, 2] bcast_S128x3_S1x128x3_1_2),
    StableHlo.TRef.unary b.p b.pb (broadcastInDim S50000x128x3 ![0, 1, 2] bcast_S50000x1x3_S50000x128x3_0_1_2),
    StableHlo.TRef.unary b.q b.qb (broadcastInDim S50000x128x3 ![0, 1, 2] bcast_S1x128x3_S50000x128x3_0_1_2),
    StableHlo.TRef.binary b.pb b.qb b.df subf,
    StableHlo.TRef.binary b.df b.df b.sq mulf,
    StableHlo.TRef.nullary b.z0 (constant S_ .f32 0x00000000#32),
    StableHlo.TRef.binary b.sq b.z0 b.ds (fun x v => Host.reduceAdd x v reducesTo_S50000x128x3_S50000x128_d2 h_S_),
    StableHlo.TRef.nullary b.am.v0 (iotaInDim S50000x128 32 1),
    StableHlo.TRef.nullary b.am.cst (constant S_ .f32 0x7F800000#32),
    StableHlo.TRef.nullary b.am.c (constantI S_ 32 0#32),
    StableHlo.TRef.quaternary b.ds b.am.v0 b.am.cst b.am.c b.am.v1_0 (fun x y u v j =>
      (Host.argReduce reducer_argmin_f32_i32 x y u v reducesTo_S50000x128_S50000_d1 h_S_ j).1),
    StableHlo.TRef.quaternary b.ds b.am.v0 b.am.cst b.am.c b.am.v1_1 (fun x y u v j =>
      (Host.argReduce reducer_argmin_f32_i32 x y u v reducesTo_S50000x128_S50000_d1 h_S_ j).2)]

/-- The second half of an iteration: the new centroids. -/
abbrev updOps (b : IterBufs) : List (Op F) := [
    StableHlo.TRef.nullary b.z1 (constant S_ .f32 0x00000000#32),
    StableHlo.TRef.unary b.z1 b.zs (broadcastInDim S128x3 ![] bcast_S_S128x3),
    StableHlo.TRef.unary b.am.v1_1 b.l1 (broadcastInDim S50000x1 ![0] bcast_S50000_S50000x1_0),
    StableHlo.TRef.ternary b.zs b.l1 (.of main_v11 : StableHlo.TRef sig ⟨S50000x3, .f32⟩) b.sm (fun x i u => Host.scatterAdd scatter_S128x3_S50000x1_S50000x3_1_0_0_1 x i u),
    StableHlo.TRef.nullary b.z2 (constant S_ .f32 0x00000000#32),
    StableHlo.TRef.unary b.z2 b.zc (broadcastInDim S128 ![] bcast_S_S128),
    StableHlo.TRef.unary b.am.v1_1 b.l2 (broadcastInDim S50000x1 ![0] bcast_S50000_S50000x1_0),
    StableHlo.TRef.ternary b.zc b.l2 (.of main_v13 : StableHlo.TRef sig ⟨S50000, .f32⟩) b.ct (fun x i u => Host.scatterAdd scatter_S128_S50000x1_S50000_n_0_0_1 x i u),
    StableHlo.TRef.nullary b.o1 (constant S_ .f32 0x3F800000#32),
    StableHlo.TRef.unary b.o1 b.ob (broadcastInDim S128 ![] bcast_S_S128),
    StableHlo.TRef.binary b.ct b.ob b.mx maximumf,
    StableHlo.TRef.unary b.mx b.m1 (broadcastInDim S128x1 ![0] bcast_S128_S128x1_0),
    StableHlo.TRef.unary b.m1 b.mb (broadcastInDim S128x3 ![0, 1] bcast_S128x1_S128x3_0_1),
    StableHlo.TRef.binary b.sm b.mb b.co Host.divf]

/-- The first `n` iterations. -/
abbrev iters : Nat → List (Op F)
  | 0 => []
  | n + 1 => iters n ++ (labOps (iterBufs n) ++ updOps (iterBufs n))

/-- The tail: the indicator array of the last labels. -/
abbrev tailOps : List (Op F) := [
    StableHlo.nullary main_cst_44 (constant S_ .f32 0x00000000#32),
    StableHlo.unary main_cst_44 main_v205 (broadcastInDim S50000x128 ![] bcast_S_S50000x128 : (⟨S_, .f32⟩ : BufTy).Contents (Elt F) → (⟨S50000x128, .f32⟩ : BufTy).Contents (Elt F)),
    StableHlo.nullary main_v206 (iotaInDim S50000 32 0),
    StableHlo.nullary main_c_45 (constantI S_ 32 0#32),
    StableHlo.unary main_c_45 main_v207 (broadcastInDim S50000 ![] bcast_S_S50000 : (⟨S_, .i32⟩ : BufTy).Contents (Elt F) → (⟨S50000, .i32⟩ : BufTy).Contents (Elt F)),
    StableHlo.binary main_v206 main_v207 main_v208 (cmpi .slt : (⟨S50000, .i32⟩ : BufTy).Contents (Elt F) → (⟨S50000, .i32⟩ : BufTy).Contents (Elt F) → (⟨S50000, .i1⟩ : BufTy).Contents (Elt F)),
    StableHlo.nullary main_c_46 (constantI S_ 32 50000#32),
    StableHlo.unary main_c_46 main_v209 (broadcastInDim S50000 ![] bcast_S_S50000 : (⟨S_, .i32⟩ : BufTy).Contents (Elt F) → (⟨S50000, .i32⟩ : BufTy).Contents (Elt F)),
    StableHlo.binary main_v206 main_v209 main_v210 (addi : (⟨S50000, .i32⟩ : BufTy).Contents (Elt F) → (⟨S50000, .i32⟩ : BufTy).Contents (Elt F) → (⟨S50000, .i32⟩ : BufTy).Contents (Elt F)),
    StableHlo.ternary main_v208 main_v210 main_v206 main_v211 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.nullary main_c_47 (constantI S_ 32 0#32),
    StableHlo.unary main_c_47 main_v212 (broadcastInDim S50000 ![] bcast_S_S50000 : (⟨S_, .i32⟩ : BufTy).Contents (Elt F) → (⟨S50000, .i32⟩ : BufTy).Contents (Elt F)),
    StableHlo.binary main_v193 main_v212 main_v213 (cmpi .slt : (⟨S50000, .i32⟩ : BufTy).Contents (Elt F) → (⟨S50000, .i32⟩ : BufTy).Contents (Elt F) → (⟨S50000, .i1⟩ : BufTy).Contents (Elt F)),
    StableHlo.nullary main_c_48 (constantI S_ 32 128#32),
    StableHlo.unary main_c_48 main_v214 (broadcastInDim S50000 ![] bcast_S_S50000 : (⟨S_, .i32⟩ : BufTy).Contents (Elt F) → (⟨S50000, .i32⟩ : BufTy).Contents (Elt F)),
    StableHlo.binary main_v193 main_v214 main_v215 (addi : (⟨S50000, .i32⟩ : BufTy).Contents (Elt F) → (⟨S50000, .i32⟩ : BufTy).Contents (Elt F) → (⟨S50000, .i32⟩ : BufTy).Contents (Elt F)),
    StableHlo.ternary main_v213 main_v215 main_v193 main_v216 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v211 main_v217 (broadcastInDim S50000x1 ![0] bcast_S50000_S50000x1_0 : (⟨S50000, .i32⟩ : BufTy).Contents (Elt F) → (⟨S50000x1, .i32⟩ : BufTy).Contents (Elt F)),
    StableHlo.unary main_v216 main_v218 (broadcastInDim S50000x1 ![0] bcast_S50000_S50000x1_0 : (⟨S50000, .i32⟩ : BufTy).Contents (Elt F) → (⟨S50000x1, .i32⟩ : BufTy).Contents (Elt F)),
    StableHlo.binary main_v217 main_v218 main_v219 ((fun a b => twoCols a b) : (⟨S50000x1, .i32⟩ : BufTy).Contents (Elt F) → (⟨S50000x1, .i32⟩ : BufTy).Contents (Elt F) → (⟨S50000x2, .i32⟩ : BufTy).Contents (Elt F)),
    StableHlo.nullary main_cst_49 (constant S_ .f32 0x3F800000#32),
    StableHlo.unary main_cst_49 main_v220 (broadcastInDim S50000 ![] bcast_S_S50000 : (⟨S_, .f32⟩ : BufTy).Contents (Elt F) → (⟨S50000, .f32⟩ : BufTy).Contents (Elt F)),
    StableHlo.ternary main_v205 main_v219 main_v220 main_v221 ((fun x i u => Host.scatter scatter_S50000x128_S50000x2_S50000_n_01_01_1 (fun _ b => b) x i u) : (⟨S50000x128, .f32⟩ : BufTy).Contents (Elt F) → (⟨S50000x2, .i32⟩ : BufTy).Contents (Elt F) → (⟨S50000, .f32⟩ : BufTy).Contents (Elt F) → (⟨S50000x128, .f32⟩ : BufTy).Contents (Elt F)),
    StableHlo.unary main_v221 main_v222 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v222 main_v223 (broadcastInDim S4x50000x128 ![0, 1, 2] bcast_S1x50000x128_S4x50000x128_0_1_2 : (⟨S1x50000x128, .f32⟩ : BufTy).Contents (Elt F) → (⟨S4x50000x128, .f32⟩ : BufTy).Contents (Elt F))]

/-- The whole host program. -/
abbrev ops : List (Op F) := preOps ++ (iters 10 ++ tailOps)

/-- The reference's `main` is the straight line of `ops`. -/
theorem main_eq (d : Dev nD) : main (F := F) d = StableHlo.seq ops := by chain_rfl

end Cert.KMeans.Ref
-- ==== Proof.RefReads.lean ====
/-
  What the reference's buffers hold after each part of its host program.
-/
module

public import proofs.«01_k».proof.Proof.RefOps
public import Idealize.ShloMosaic.Lib.Pipeline.Frame
public import Idealize.ShloMosaic.Lib.StableHlo.RunRead

@[expose] public section

set_option maxRecDepth 16384

noncomputable section

namespace Cert.KMeans.Ref

open Idealize.ShloMosaic Idealize.SL.Sem
open Cert.ReferenceIdeal Cert.ReferenceIdeal.Facts₀

/-- The labels of an iteration, from the points and the centroids before it. -/
theorem labOps_read (t : Nat) (ht : t < 10) (V : Valuation τ sig (Elt Ideal)) :
    (iterBufs t).am.v1_1.ofBuf (StableHlo.after (labOps (F := Ideal) (iterBufs t)) V (Proc.devRef .tc (iterBufs t).am.v1_1.ref))
      = refLabels (V (Proc.devRef .tc main_v11)) ((iterBufs t).ci.ofBuf (V (Proc.devRef .tc (iterBufs t).ci.ref))) := by
  delta refLabels refLab second refDist
  rcases iterBufs_eq t ht with h | h | h | h | h | h | h | h | h | h <;> rw [h] <;>
    (dsimp only [bufs0, bufs1, bufs2, bufs3, bufs4, bufs5, bufs6, bufs7, bufs8, bufs9, labOps, main_call1, main_call2,
        main_call3, main_call4, main_call5, main_call6, main_call7, main_call8, main_call9, main_call10]
     after_reads_simp
     simp -implicitDefEqProofs only [StableHlo.TRef.toBuf, StableHlo.TRef.ofBuf, cast_cast, cast_eq])

/-- The centroids of an iteration, from the points and the labels. -/
theorem updOps_read (t : Nat) (ht : t < 10) (V : Valuation τ sig (Elt Ideal))
    (h1 : V (Proc.devRef .tc main_v13) = refOnes) :
    (iterBufs t).co.ofBuf (StableHlo.after (updOps (F := Ideal) (iterBufs t)) V (Proc.devRef .tc (iterBufs t).co.ref))
      = refUpd (V (Proc.devRef .tc main_v11)) ((iterBufs t).am.v1_1.ofBuf (V (Proc.devRef .tc (iterBufs t).am.v1_1.ref))) := by
  delta refUpd
  rw [← h1]
  rcases iterBufs_eq t ht with h | h | h | h | h | h | h | h | h | h <;> rw [h] <;>
    (dsimp only [bufs0, bufs1, bufs2, bufs3, bufs4, bufs5, bufs6, bufs7, bufs8, bufs9, updOps, main_call1, main_call2,
        main_call3, main_call4, main_call5, main_call6, main_call7, main_call8, main_call9, main_call10]
     after_reads_simp
     simp -implicitDefEqProofs only [StableHlo.TRef.toBuf, StableHlo.TRef.ofBuf, cast_cast, cast_eq])

/-- An iteration keeps the points, the ones and the arguments. -/
theorem iter_keeps (t : Nat) (ht : t < 10) (V : Valuation τ sig (Elt Ideal)) (r : Ref sig .tc)
    (hr : r ∈ [main_v11, main_v13, main_arg0, main_arg1]) :
    StableHlo.after (labOps (F := Ideal) (iterBufs t)) V (Proc.devRef .tc r) = V (Proc.devRef .tc r) ∧
      StableHlo.after (updOps (F := Ideal) (iterBufs t)) V (Proc.devRef .tc r) = V (Proc.devRef .tc r) := by
  simp only [List.mem_cons, List.not_mem_nil, or_false] at hr
  rcases iterBufs_eq t ht with h | h | h | h | h | h | h | h | h | h <;> rw [h] <;>
    (rcases hr with rfl | rfl | rfl | rfl <;> constructor <;>
      (dsimp only [bufs0, bufs1, bufs2, bufs3, bufs4, bufs5, bufs6, bufs7, bufs8, bufs9, labOps, updOps, main_call1,
        main_call2, main_call3, main_call4, main_call5, main_call6, main_call7, main_call8, main_call9, main_call10]
       after_reads_simp))

/-- The last update keeps the last labels. -/
theorem updOps_label (V : Valuation τ sig (Elt Ideal)) :
    StableHlo.after (updOps (F := Ideal) (iterBufs 9)) V (Proc.devRef .tc main_v193) = V (Proc.devRef .tc main_v193) := by
  have h : iterBufs 9 = bufs9 := rfl
  rw [h]
  dsimp only [bufs9, updOps, main_call10]
  after_reads_simp

/-- An iteration starts from the centroids of the one before. -/
theorem ci_succ (t : Nat) (ht : t < 9) : (iterBufs (t + 1)).ci = (iterBufs t).co := by
  interval_cases t <;> rfl

/-- The prefix: the points of the iterations, the first centroids and the ones, and the arguments kept. -/
theorem preOps_read (V : Valuation τ sig (Elt Ideal)) :
    StableHlo.after (preOps (F := Ideal)) V (Proc.devRef .tc main_v11) = normalized (V (Proc.devRef .tc main_arg1)) ∧
    StableHlo.after (preOps (F := Ideal)) V (Proc.devRef .tc main_v12) = cents0 (normalized (V (Proc.devRef .tc main_arg1))) ∧
    StableHlo.after (preOps (F := Ideal)) V (Proc.devRef .tc main_v13) = refOnes ∧
    StableHlo.after (preOps (F := Ideal)) V (Proc.devRef .tc main_arg0) = V (Proc.devRef .tc main_arg0) ∧
    StableHlo.after (preOps (F := Ideal)) V (Proc.devRef .tc main_arg1) = V (Proc.devRef .tc main_arg1) := by
  delta cents0 normalized variance refOnes
  dsimp only [preOps, stdOps, varOps, whereOps, main_call0, main_call0_call0, main_call0_call0_call0, List.cons_append,
    List.nil_append]
  refine ⟨?_, ?_, ?_, ?_, ?_⟩ <;> after_reads_simp <;>
    simp -implicitDefEqProofs only [StableHlo.TRef.toBuf, StableHlo.TRef.ofBuf, cast_cast, cast_eq]

/-- The tail: the indicator array of the last labels, and the arguments kept. -/
theorem tailOps_read (V : Valuation τ sig (Elt Ideal)) :
    StableHlo.after (tailOps (F := Ideal)) V (Proc.devRef .tc main_v223) = refHot (V (Proc.devRef .tc main_v193)) ∧
    StableHlo.after (tailOps (F := Ideal)) V (Proc.devRef .tc main_arg0) = V (Proc.devRef .tc main_arg0) ∧
    StableHlo.after (tailOps (F := Ideal)) V (Proc.devRef .tc main_arg1) = V (Proc.devRef .tc main_arg1) := by
  delta refHot
  dsimp only [tailOps]
  refine ⟨?_, ?_, ?_⟩ <;> after_reads_simp

end Cert.KMeans.Ref
-- ==== Proof.RefRun.lean ====
/-
  The reference's run: the result is the indicator array of the labels of the tenth iteration, the arguments are kept, and
  no semaphore exists.
-/
module

public import proofs.«01_k».proof.Proof.RefReads

@[expose] public section

set_option maxRecDepth 16384

noncomputable section

namespace Cert.KMeans.Ref

open Idealize.ShloMosaic Idealize.SL.Sem
open Cert.ReferenceIdeal Cert.ReferenceIdeal.Facts₀

/-- The labels of the tenth iteration, from the argument. -/
def finalLabels (x : FVec Ideal S50000x3 .f32) : IVec S50000 32 :=
  refLabels (normalized x) (refCents (normalized x) 9)

/-- After `n` iterations the centroids are the `n`-th ones, and the points, the ones and the arguments are kept. -/
theorem iters_read (n : Nat) (hn : n < 10) (V : Valuation τ sig (Elt Ideal))
    (h1 : V (Proc.devRef .tc main_v13) = refOnes)
    (h2 : V (Proc.devRef .tc main_v12) = cents0 (V (Proc.devRef .tc main_v11))) :
    (iterBufs n).ci.ofBuf (StableHlo.after (iters (F := Ideal) n) V (Proc.devRef .tc (iterBufs n).ci.ref))
        = refCents (V (Proc.devRef .tc main_v11)) n ∧
      ∀ r ∈ [main_v11, main_v13, main_arg0, main_arg1],
        StableHlo.after (iters (F := Ideal) n) V (Proc.devRef .tc r) = V (Proc.devRef .tc r) := by
  induction n with
  | zero => exact ⟨h2, fun r _ => rfl⟩
  | succ n ih =>
    obtain ⟨hc, hk⟩ := ih (by omega)
    have hkeep : ∀ r ∈ [main_v11, main_v13, main_arg0, main_arg1],
        StableHlo.after (labOps (F := Ideal) (iterBufs n)) (StableHlo.after (iters (F := Ideal) n) V) (Proc.devRef .tc r)
          = V (Proc.devRef .tc r) := fun r hr => by
      rw [(iter_keeps n (by omega) _ r hr).1, hk r hr]
    constructor
    · rw [ci_succ n (by omega)]
      rw [show iters (F := Ideal) (n + 1) = iters n ++ (labOps (iterBufs n) ++ updOps (iterBufs n)) from rfl,
        StableHlo.after_append, StableHlo.after_append, updOps_read n (by omega) _ (by rw [hkeep _ (by simp), h1]),
        hkeep _ (by simp), labOps_read n (by omega), hk _ (by simp), hc]
      rfl
    · intro r hr
      rw [show iters (F := Ideal) (n + 1) = iters n ++ (labOps (iterBufs n) ++ updOps (iterBufs n)) from rfl,
        StableHlo.after_append, StableHlo.after_append, (iter_keeps n (by omega) _ r hr).2, hkeep r hr]

/-- The whole program: the result is the indicator array of the final labels, and the arguments are kept. -/
theorem ops_read (V : Valuation τ sig (Elt Ideal)) :
    StableHlo.after (ops (F := Ideal)) V (Proc.devRef .tc main_v223) = refHot (finalLabels (V (Proc.devRef .tc main_arg1))) ∧
    StableHlo.after (ops (F := Ideal)) V (Proc.devRef .tc main_arg0) = V (Proc.devRef .tc main_arg0) ∧
    StableHlo.after (ops (F := Ideal)) V (Proc.devRef .tc main_arg1) = V (Proc.devRef .tc main_arg1) := by
  obtain ⟨p11, p12, p13, pa0, pa1⟩ := preOps_read V
  have hi := iters_read 9 (by omega) (StableHlo.after preOps V) p13 (by rw [p11, p12])
  obtain ⟨hc, hk⟩ := hi
  have e : ∀ r : Ref sig .tc, StableHlo.after (ops (F := Ideal)) V (Proc.devRef .tc r)
      = StableHlo.after tailOps (StableHlo.after (updOps (iterBufs 9)) (StableHlo.after (labOps (iterBufs 9))
          (StableHlo.after (iters 9) (StableHlo.after preOps V)))) (Proc.devRef .tc r) := fun r => by
    rw [show (ops (F := Ideal)) = preOps ++ (iters 9 ++ (labOps (iterBufs 9) ++ updOps (iterBufs 9)) ++ tailOps) from rfl,
      StableHlo.after_append, StableHlo.after_append, StableHlo.after_append, StableHlo.after_append]
  obtain ⟨t1, t2, t3⟩ := tailOps_read (StableHlo.after (updOps (iterBufs 9)) (StableHlo.after (labOps (iterBufs 9))
          (StableHlo.after (iters 9) (StableHlo.after preOps V))))
  refine ⟨?_, ?_, ?_⟩
  · rw [e, t1, updOps_label]
    have hl := labOps_read 9 (by omega) (StableHlo.after (iters 9) (StableHlo.after preOps V))
    rw [hc, hk _ (by simp), p11] at hl
    exact congrArg refHot hl
  · rw [e, t2, (iter_keeps 9 (by omega) _ _ (by simp)).2, (iter_keeps 9 (by omega) _ _ (by simp)).1, hk _ (by simp), pa0]
  · rw [e, t3, (iter_keeps 9 (by omega) _ _ (by simp)).2, (iter_keeps 9 (by omega) _ _ (by simp)).1, hk _ (by simp), pa1]

/-- An operation that reads and writes buffers of the TensorCore and writes none fresh. -/
def PlainOp (op : HloOp τ sig (Elt Ideal)) : Prop := op.bufs ⊆ StableHlo.tcRefs τ sig ∧ op.fresh = ∅

theorem plain_nullary {y : Ref sig .tc} (v : y.ty.Contents (Elt Ideal)) (hy) : PlainOp (StableHlo.nullary y v hy) :=
  ⟨StableHlo.nullary_bufs_sub .., rfl⟩
theorem plain_unary {x y : Ref sig .tc} (f : x.ty.Contents (Elt Ideal) → y.ty.Contents (Elt Ideal)) (hx hy) :
    PlainOp (StableHlo.unary x y f hx hy) := ⟨StableHlo.unary_bufs_sub .., rfl⟩
theorem plain_binary {x z y : Ref sig .tc}
    (f : x.ty.Contents (Elt Ideal) → z.ty.Contents (Elt Ideal) → y.ty.Contents (Elt Ideal)) (hx hz hy) :
    PlainOp (StableHlo.binary x z y f hx hz hy) := ⟨StableHlo.binary_bufs_sub .., rfl⟩
theorem plain_ternary {w x z y : Ref sig .tc}
    (f : w.ty.Contents (Elt Ideal) → x.ty.Contents (Elt Ideal) → z.ty.Contents (Elt Ideal) → y.ty.Contents (Elt Ideal))
    (hw hx hz hy) : PlainOp (StableHlo.ternary w x z y f hw hx hz hy) := ⟨StableHlo.ternary_bufs_sub .., rfl⟩
theorem plain_quaternary {v w x z y : Ref sig .tc}
    (f : v.ty.Contents (Elt Ideal) → w.ty.Contents (Elt Ideal) → x.ty.Contents (Elt Ideal) → z.ty.Contents (Elt Ideal) →
      y.ty.Contents (Elt Ideal)) (hv hw hx hz hy) : PlainOp (StableHlo.quaternary v w x z y f hv hw hx hz hy) :=
  ⟨StableHlo.quaternary_bufs_sub .., rfl⟩

theorem pre_plain : ∀ op ∈ preOps (F := Ideal), PlainOp op := by
  simp only [preOps, stdOps, varOps, whereOps, List.cons_append, List.nil_append, List.append_nil, List.forall_mem_cons,
    StableHlo.TRef.nullary, StableHlo.TRef.unary, StableHlo.TRef.binary, StableHlo.TRef.ternary, plain_nullary, plain_unary,
    plain_binary, plain_ternary, List.not_mem_nil, false_imp_iff, implies_true, and_self]

theorem lab_plain (b : IterBufs) : ∀ op ∈ labOps (F := Ideal) b, PlainOp op := by
  simp only [labOps, List.forall_mem_cons, StableHlo.TRef.nullary, StableHlo.TRef.unary, StableHlo.TRef.binary,
    StableHlo.TRef.quaternary, plain_nullary, plain_unary, plain_binary, plain_quaternary, List.not_mem_nil, false_imp_iff,
    implies_true, and_self]

theorem upd_plain (b : IterBufs) : ∀ op ∈ updOps (F := Ideal) b, PlainOp op := by
  simp only [updOps, List.forall_mem_cons, StableHlo.TRef.nullary, StableHlo.TRef.unary, StableHlo.TRef.binary,
    StableHlo.TRef.ternary, plain_nullary, plain_unary, plain_binary, plain_ternary, List.not_mem_nil, false_imp_iff,
    implies_true, and_self]

theorem tail_plain : ∀ op ∈ tailOps (F := Ideal), PlainOp op := by
  simp only [tailOps, List.forall_mem_cons, plain_nullary, plain_unary, plain_binary, plain_ternary, List.not_mem_nil,
    false_imp_iff, implies_true, and_self]

theorem iters_plain (n : Nat) : ∀ op ∈ iters (F := Ideal) n, PlainOp op := by
  induction n with
  | zero => intro op h; exact absurd h List.not_mem_nil
  | succ n ih =>
    intro op h
    rw [show iters (F := Ideal) (n + 1) = iters n ++ (labOps (iterBufs n) ++ updOps (iterBufs n)) from rfl,
      List.mem_append, List.mem_append] at h
    rcases h with h | h | h
    · exact ih op h
    · exact lab_plain _ op h
    · exact upd_plain _ op h

theorem ops_plain : ∀ op ∈ ops (F := Ideal), PlainOp op :=
  List.forall_mem_append.2 ⟨pre_plain, List.forall_mem_append.2 ⟨iters_plain 10, tail_plain⟩⟩

theorem no_semaphores : IsEmpty (SemLoc sig) :=
  ⟨fun s => by rcases SemLoc.equivSum sig s with h | h <;> exact h.elim0⟩

/-- The reference runs: its result is the indicator array of the final labels, its arguments are kept, and every
    semaphore counter is zero. -/
theorem run (m : (ℓ : Loc nD τ sig) → Buf (Elt Ideal) ℓ) (g : Dev nD → PrngReg) :
    θ_run (defs (F := Ideal)) (onTc (τ := τ) (main (F := Ideal))) ⟨m, fun _ => 0, g⟩ (fun r =>
      (∀ c : Dev nD,
        r.2.mem ((c.tc : Thread nD τ).loc main_v223) = refHot (finalLabels (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) := by
  refine θ_run_mono (StableHlo.run_hlo defs main (ops := ops (F := Ideal)) (fun d => main_eq d) (by decide +kernel) ?_
    (List.forall_iff_forall_mem.2 fun op h => (ops_plain op h).1) (fun op h => (ops_plain op h).2) m g) fun r h => ?_
  · haveI := no_semaphores
    exact Finset.eq_empty_of_isEmpty _
  refine ⟨fun c => ?_, ?_⟩
  · obtain ⟨h1, h2, h3⟩ := ops_read (StableHlo.launchContents m c)
    exact ⟨(h c main_v223).trans h1, (h c main_arg0).trans h2, (h c main_arg1).trans h3⟩
  · funext s
    exact (no_semaphores.false s.2).elim

end Cert.KMeans.Ref
-- ==== Proof.KerLabels.lean ====
/-
  What one grid step of the kernel's nearest-centroid call computes: the label of every point of its block.
-/
module

public import proofs.«01_k».proof.Proof.RefRun
public import proofs.«01_k».proof.Proof.Gen.KernelIdeal.Frame

@[expose] public section

set_option maxRecDepth 16384

noncomputable section

namespace Cert.KMeans.Ker

open Idealize.ShloMosaic Idealize.SL.Sem
open Cert.KernelIdeal Cert.KernelIdeal.Gen

/-- The payload of the nearest-centroid call: at row `i` the first column at which the sum of the three squared
    differences is least. -/
theorem pay_apply (a b c : Vec Ideal S2000x1 .f32) (p q r : Vec Ideal S1x128 .f32) (i : Fin 2000) :
    k0_pay1 a b c p q r (ix2 i 0) = BitVec.ofNat 32 (argmin fun k : Fin 128 =>
      (((a (ix2 i 0) - p (ix2 0 k) : EReal) * (a (ix2 i 0) - p (ix2 0 k) : EReal)
        + (b (ix2 i 0) - q (ix2 0 k) : EReal) * (b (ix2 i 0) - q (ix2 0 k) : EReal))
        + (c (ix2 i 0) - r (ix2 0 k) : EReal) * (c (ix2 i 0) - r (ix2 0 k) : EReal) : EReal)).val := by
  unfold k0_pay1
  dsimp only
  pointwise
  exact fold_min_index _ _ fun k => by rw [ofBits_infinity]

end Cert.KMeans.Ker
-- ==== Proof.KerRegions.lean ====
/-
  The nearest-centroid calls: after each of the ten, the array of labels holds, at every point, the first centroid nearest
  to it.
-/
module

public import proofs.«01_k».proof.Proof.KerLabels

@[expose] public section

set_option maxRecDepth 16384

noncomputable section

namespace Cert.KMeans.Ker

open Idealize.ShloMosaic Idealize.ShloMosaic.TcCoe Idealize.SL.Sem
open Idealize.ShloMosaic.Pipeline (Dat)
open Cert.KernelIdeal Cert.KernelIdeal.Gen

/-- The column of labels of the points `X` for the transposed centroids `T`. -/
def labCol (X : FVec Ideal S50000x3 .f32) (T : FVec Ideal S3x128 .f32) : IVec S50000x1 32 := fun j =>
  BitVec.ofNat 32 (argmin fun k : Fin 128 =>
      (((X (ix2 (j 0) 0) - T (ix2 0 k) : EReal) * (X (ix2 (j 0) 0) - T (ix2 0 k) : EReal)
        + (X (ix2 (j 0) 1) - T (ix2 1 k) : EReal) * (X (ix2 (j 0) 1) - T (ix2 1 k) : EReal))
        + (X (ix2 (j 0) 2) - T (ix2 2 k) : EReal) * (X (ix2 (j 0) 2) - T (ix2 2 k) : EReal) : EReal)).val

/-- What the body of the call leaves in its output block: the labels of the block's points. -/
theorem block_labels (X : FVec Ideal S50000x3 .f32) (T : FVec Ideal S3x128 .f32) (x0 : Vec Ideal S2000x3 .f32)
    (x1 : Vec Ideal S3x128 .f32) (y : S2000x1.Idx) (j : S50000x1.Idx)
    (h0 : ∀ d : Fin 3, x0 (ix2 (y 0) d) = X (ix2 (j 0) d)) (h1 : ∀ z, x1 z = T z) :
    out0_2 x0 x1 y = labCol X T j := by
  obtain ⟨i, rfl⟩ : ∃ i : Fin 2000, y = ix2 i 0 := ⟨y 0, funext fun a => by
    fin_cases a
    · rfl
    · exact Fin.eq_of_val_eq (Nat.lt_one_iff.1 (y 1).isLt)⟩
  unfold out0_2
  rw [View.canon_unit_zero (funext fun a => by fin_cases a <;> rfl)]
  refine (pay_apply _ _ _ _ _ _ i).trans ?_
  unfold labCol
  have a0 : View.ld x0 r0_0 (ix2 i 0) = X (ix2 (j 0) 0) :=
    (View.ld_unit_apply_of x0 _ _ _ (ix2 i 0) (ix2 i 0) fun a => by fin_cases a <;> simp).trans (h0 0)
  have a1 : View.ld x0 r0_1 (ix2 i 0) = X (ix2 (j 0) 1) :=
    (View.ld_unit_apply_of x0 _ _ _ (ix2 i 0) (ix2 i 1) fun a => by fin_cases a <;> simp).trans (h0 1)
  have a2 : View.ld x0 r0_2 (ix2 i 0) = X (ix2 (j 0) 2) :=
    (View.ld_unit_apply_of x0 _ _ _ (ix2 i 0) (ix2 i 2) fun a => by fin_cases a <;> simp).trans (h0 2)
  have b0 : ∀ k, View.ld x1 r0_3 (ix2 0 k) = T (ix2 0 k) := fun k =>
    (View.ld_unit_apply_of x1 _ _ _ (ix2 0 k) (ix2 0 k) fun a => by fin_cases a <;> simp).trans (h1 _)
  have b1 : ∀ k, View.ld x1 r0_4 (ix2 0 k) = T (ix2 1 k) := fun k =>
    (View.ld_unit_apply_of x1 _ _ _ (ix2 0 k) (ix2 1 k) fun a => by fin_cases a <;> simp).trans (h1 _)
  have b2 : ∀ k, View.ld x1 r0_5 (ix2 0 k) = T (ix2 2 k) := fun k =>
    (View.ld_unit_apply_of x1 _ _ _ (ix2 0 k) (ix2 2 k) fun a => by fin_cases a <;> simp).trans (h1 _)
  simp only [a0, a1, a2, b0, b1, b2]

/-! The blocks each call's windows are at: at step `t` the `t`-th block of points and of labels, and the whole centroids. -/
theorem idx0 : ∀ t : Fin cfg0.N, win0_0.index t = ![t.val, 0] ∧ win0_1.index t = ![0, 0] ∧ win0_2.index t = ![t.val, 0] :=
  (by decide +kernel : ∀ t : Fin grid0.N, _)
theorem idx1 : ∀ t : Fin cfg1.N, win1_0.index t = ![t.val, 0] ∧ win1_1.index t = ![0, 0] ∧ win1_2.index t = ![t.val, 0] :=
  (by decide +kernel : ∀ t : Fin grid1.N, _)
theorem idx2 : ∀ t : Fin cfg2.N, win2_0.index t = ![t.val, 0] ∧ win2_1.index t = ![0, 0] ∧ win2_2.index t = ![t.val, 0] :=
  (by decide +kernel : ∀ t : Fin grid2.N, _)
theorem idx3 : ∀ t : Fin cfg3.N, win3_0.index t = ![t.val, 0] ∧ win3_1.index t = ![0, 0] ∧ win3_2.index t = ![t.val, 0] :=
  (by decide +kernel : ∀ t : Fin grid3.N, _)
theorem idx4 : ∀ t : Fin cfg4.N, win4_0.index t = ![t.val, 0] ∧ win4_1.index t = ![0, 0] ∧ win4_2.index t = ![t.val, 0] :=
  (by decide +kernel : ∀ t : Fin grid4.N, _)
theorem idx5 : ∀ t : Fin cfg5.N, win5_0.index t = ![t.val, 0] ∧ win5_1.index t = ![0, 0] ∧ win5_2.index t = ![t.val, 0] :=
  (by decide +kernel : ∀ t : Fin grid5.N, _)
theorem idx6 : ∀ t : Fin cfg6.N, win6_0.index t = ![t.val, 0] ∧ win6_1.index t = ![0, 0] ∧ win6_2.index t = ![t.val, 0] :=
  (by decide +kernel : ∀ t : Fin grid6.N, _)
theorem idx7 : ∀ t : Fin cfg7.N, win7_0.index t = ![t.val, 0] ∧ win7_1.index t = ![0, 0] ∧ win7_2.index t = ![t.val, 0] :=
  (by decide +kernel : ∀ t : Fin grid7.N, _)
theorem idx8 : ∀ t : Fin cfg8.N, win8_0.index t = ![t.val, 0] ∧ win8_1.index t = ![0, 0] ∧ win8_2.index t = ![t.val, 0] :=
  (by decide +kernel : ∀ t : Fin grid8.N, _)
theorem idx9 : ∀ t : Fin cfg9.N, win9_0.index t = ![t.val, 0] ∧ win9_1.index t = ![0, 0] ∧ win9_2.index t = ![t.val, 0] :=
  (by decide +kernel : ∀ t : Fin grid9.N, _)

set_option maxHeartbeats 4000000 in
/-- The labels that each of the ten calls leaves in its result array, from the points and the transposed centroids that it
    finds in its argument arrays. -/
theorem regions (V : (c : Dev nD) → (b : Ref sig .tc) → Buf (Elt Ideal) ((c : Thread nD τ).loc b)) (c : Dev nD) :
    (dat0 V c).arrAt 2 cfg0.N = labCol (V c main_v11) (V c main_v15) ∧
    (dat1 V c).arrAt 2 cfg1.N = labCol (V c main_v11) (V c main_v36) ∧
    (dat2 V c).arrAt 2 cfg2.N = labCol (V c main_v11) (V c main_v57) ∧
    (dat3 V c).arrAt 2 cfg3.N = labCol (V c main_v11) (V c main_v78) ∧
    (dat4 V c).arrAt 2 cfg4.N = labCol (V c main_v11) (V c main_v99) ∧
    (dat5 V c).arrAt 2 cfg5.N = labCol (V c main_v11) (V c main_v120) ∧
    (dat6 V c).arrAt 2 cfg6.N = labCol (V c main_v11) (V c main_v141) ∧
    (dat7 V c).arrAt 2 cfg7.N = labCol (V c main_v11) (V c main_v162) ∧
    (dat8 V c).arrAt 2 cfg8.N = labCol (V c main_v11) (V c main_v183) ∧
    (dat9 V c).arrAt 2 cfg9.N = labCol (V c main_v11) (V c main_v204) := by
  refine ⟨?_, ?_, ?_, ?_, ?_, ?_, ?_, ?_, ?_, ?_⟩ <;>
    (refine Dat.arrAt_eq_of_covers _ 2 _ (by decide +kernel) fun t _ y => ?_
     blk_simp
     simp only [after0_2, after1_2, after2_2, after3_2, after4_2, after5_2, after6_2, after7_2, after8_2, after9_2]
     refine block_labels _ _ _ _ _ _ (fun d => ?_) (fun z => ?_)
     · blk_simp [iblk0, iblk1, iblk2, iblk3, iblk4, iblk5, iblk6, iblk7, iblk8, iblk9]
       exact congrArg _ (by blk_ext [idx0, idx1, idx2, idx3, idx4, idx5, idx6, idx7, idx8, idx9])
     · blk_simp [iblk0, iblk1, iblk2, iblk3, iblk4, iblk5, iblk6, iblk7, iblk8, iblk9]
       exact congrArg _ (by blk_ext [idx0, idx1, idx2, idx3, idx4, idx5, idx6, idx7, idx8, idx9]))

end Cert.KMeans.Ker
-- ==== Proof.KerFns.lean ====
/-
  What the kernel's host code computes between two calls, as functions of the points and the labels: the labels sorted with
  the points' numbers, the points taken in that order, the sums and the counts of every label, and the new centroids.
-/
module

public import proofs.«01_k».proof.Proof.KerRegions

@[expose] public section

set_option maxRecDepth 16384

noncomputable section

namespace Cert.KMeans.Ker

open Idealize.ShloMosaic Idealize.SL.Sem
open Cert.KernelIdeal Cert.KernelIdeal.Facts₀

/-- The labels in increasing order. -/
def sortedLabels (l ids : IVec S50000 32) : IVec S50000 32 := (Host.sort2 S50000 0 comparator_i32_i32_d0 l ids).1

/-- The numbers of the points in the order of their labels. -/
def sortedIds (l ids : IVec S50000 32) : IVec S50000 32 := (Host.sort2 S50000 0 comparator_i32_i32_d0 l ids).2

/-- A column of point numbers, a negative one counted from the end. -/
def wrapIds (s : IVec S50000 32) : IVec S50000x1 32 :=
  broadcastInDim S50000x1 ![0] bcast_S50000_S50000x1_0
    (select (cmpi .slt s (broadcastInDim S50000 ![] bcast_S_S50000 (constantI S_ 32 0#32)))
      (addi s (broadcastInDim S50000 ![] bcast_S_S50000 (constantI S_ 32 50000#32))) s)

/-- The rows of the points at the numbers of a column, a row of a number out of range filled. -/
def rowsAt (cn : FVec Ideal S50000x3 .f32) (w : IVec S50000x1 32) : FVec Ideal S50000x3 .f32 :=
  select
    (broadcastInDim S50000x3 ![0] bcast_S50000_S50000x3_0
      (Host.reduce IntOp.andi
        (andi (cmpi .sge w (broadcastInDim S50000x1 ![] bcast_S_S50000x1 (constantI S_ 32 0#32)))
          (cmpi .sle w (broadcastInDim S50000x1 ![0, 1] bcast_S1x1_S50000x1_0_1
            (broadcastInDim S1x1 ![1] bcast_S1_S1x1_1 (constantI S1 32 49999#32)))))
        (constantI S_ 1 1#1) reducesTo_S50000x1_S50000_d1 h_S_))
    (Host.gather gather_S50000x3_S50000x1_S50000x3_1_0_n_n_0_1_13 cn w)
    (broadcastInDim S50000x3 ![] bcast_S_S50000x3 (constant S_ .f32 0x7FC00000#32))

/-- How many of the labels lie below each of the queries. -/
def below (s : IVec S50000 32) (q : IVec S128 32) : IVec S128 32 :=
  Host.reduce IntOp.addi
    (extui 32
      (cmpi .slt
        (broadcastInDim S50000x128 ![0, 1] bcast_S50000x1_S50000x128_0_1
          (broadcastInDim S50000x1 ![0] bcast_S50000_S50000x1_0 s))
        (broadcastInDim S50000x128 ![0, 1] bcast_S1x128_S50000x128_0_1
          (broadcastInDim S1x128 ![1] bcast_S128_S1x128_1 q))) natLt_1_32)
    (constantI S_ 32 0#32) reducesTo_S50000x128_S128_d0 h_S_

/-- The sum of the rows of every label. -/
def sums (s : IVec S50000 32) (rows : FVec Ideal S50000x3 .f32) : FVec Ideal S128x3 .f32 :=
  Host.scatterAdd scatter_S128x3_S50000x1_S50000x3_1_0_0_1
    (broadcastInDim S128x3 ![] bcast_S_S128x3 (constant S_ .f32 0x00000000#32))
    (broadcastInDim S50000x1 ![0] bcast_S50000_S50000x1_0 s) rows

/-- The number of points of every label. -/
def counts (s : IVec S50000 32) : IVec S128 32 :=
  subi (below s (addi (broadcastInDim S128 ![] bcast_S_S128 (constantI S_ 32 1#32)) (iotaInDim S128 32 0)))
    (below s (iotaInDim S128 32 0))

/-- The new centroids, from the sorted labels and the points' numbers in that order: the sums over the counts, a count of
    zero taken as one. -/
def updOf (cn : FVec Ideal S50000x3 .f32) (s ids : IVec S50000 32) : FVec Ideal S128x3 .f32 :=
  Host.divf (sums s (rowsAt cn (wrapIds ids)))
    (broadcastInDim S128x3 ![0, 1] bcast_S128x1_S128x3_0_1
      (broadcastInDim S128x1 ![0] bcast_S128_S128x1_0
        (maximumf (sitofp .f32 (counts s)) (broadcastInDim S128 ![] bcast_S_S128 (constant S_ .f32 0x3F800000#32)))))

/-- The new centroids, from the labels and the points' numbers. -/
def kerUpd (cn : FVec Ideal S50000x3 .f32) (l ids : IVec S50000 32) : FVec Ideal S128x3 .f32 :=
  updOf cn (sortedLabels l ids) (sortedIds l ids)

/-- The centroids laid out for the next call. -/
def turned (c : FVec Ideal S128x3 .f32) : FVec Ideal S3x128 .f32 := transpose S3x128 [1, 0] c transposes_S128x3_S3x128_1_0

/-- The column of labels as a vector. -/
def flat (l : IVec S50000x1 32) : IVec S50000 32 := shapeCast S50000 l shapeCasts_S50000x1_S50000

end Cert.KMeans.Ker
-- ==== Proof.KerCount.lean ====
/-
  The kernel's host code read at an element: the sort is a rearrangement of the points, the rows taken are the points'
  rows in that order, and the counts are the numbers of points of every label.
-/
module

public import proofs.«01_k».proof.Proof.KerFns
public import Idealize.ShloMosaic.Lib.SortFacts
public import Idealize.ShloMosaic.Lib.ReduceAll
public import Idealize.ShloMosaic.Lib.Routing.OpsOne

@[expose] public section

set_option maxRecDepth 16384

noncomputable section

namespace Cert.KMeans.Ker

open Idealize.ShloMosaic Idealize.SL.Sem Idealize.ShloMosaic.Routing
open Cert.KernelIdeal Cert.KernelIdeal.Facts₀

/-- The sort rearranges the labels and the numbers by one rearrangement of the points. -/
theorem sorted_perm (l ids : IVec S50000 32) : ∃ σ : Fin 50000 → Fin 50000, Function.Bijective σ ∧
    (∀ i, sortedLabels l ids (ix1 i) = l (ix1 (σ i))) ∧ ∀ i, sortedIds l ids (ix1 i) = ids (ix1 (σ i)) := by
  have hal : ∀ (i : Fin 50000) (k : Fin 50000) (h : 0 < S50000.rank), (ix1 i : S50000.Idx).along ⟨0, h⟩ k = ix1 k :=
    fun i k h => by
      funext a
      obtain rfl : a = 0 := Subsingleton.elim (α := Fin 1) _ _
      unfold Shape.Idx.along
      exact Function.update_self 0 k (ix1 i)
  have hrel : ∀ (i : Fin 50000) (h : 0 < S50000.rank), (fun k k' : Fin 50000 => comparator_i32_i32_d0
      (l ((ix1 i : S50000.Idx).along ⟨0, h⟩ k), ids ((ix1 i : S50000.Idx).along ⟨0, h⟩ k))
      (l ((ix1 i : S50000.Idx).along ⟨0, h⟩ k'), ids ((ix1 i : S50000.Idx).along ⟨0, h⟩ k')) == 1#1)
      = fun k k' : Fin 50000 => comparator_i32_i32_d0 (l (ix1 k), ids (ix1 k)) (l (ix1 k'), ids (ix1 k')) == 1#1 :=
    fun i h => by simp only [hal]
  refine ⟨fun i => sortedFrom (fun k k' : Fin 50000 =>
    comparator_i32_i32_d0 (l (ix1 k), ids (ix1 k)) (l (ix1 k'), ids (ix1 k')) == 1#1) i,
    ⟨sortedFrom_injective _, sortedFrom_surjective _⟩, fun i => ?_, fun i => ?_⟩
  · unfold sortedLabels Host.sort2
    rw [dif_pos (by decide : 0 < S50000.rank)]
    exact (congrArg l (hal i _ _)).trans (congrArg (fun r => l (ix1 (sortedFrom r i))) (hrel i _))
  · unfold sortedIds Host.sort2
    rw [dif_pos (by decide : 0 < S50000.rank)]
    exact (congrArg ids (hal i _ _)).trans (congrArg (fun r => ids (ix1 (sortedFrom r i))) (hrel i _))

/-- A small natural number is its word read signed. -/
theorem toInt_small {n : Nat} (h : n < 2 ^ 31) : (BitVec.ofNat 32 n).toInt = (n : Int) :=
  StableHlo.Predicate.toInt_ofNat_small _ h

/-- A choice by rows that keeps every row. -/
theorem select_rows (m : IVec S50000 1) (hm : ∀ p, m p = 1#1) (a b : FVec Ideal S50000x3 .f32) :
    select (broadcastInDim S50000x3 ![0] bcast_S50000_S50000x3_0 m) a b = a := by
  funext j
  exact (congrArg (fun t => Scalar.select t (a j) (b j)) (hm _)).trans rfl

/-- The rows taken at the numbers of the points `σ` are the points' rows. -/
theorem rowsAt_apply (cn : FVec Ideal S50000x3 .f32) (s : IVec S50000 32) (σ : Fin 50000 → Fin 50000)
    (hs : ∀ i, s (ix1 i) = BitVec.ofNat 32 (σ i).val) (i : Fin 50000) (d : Fin 3) :
    rowsAt cn (wrapIds s) (ix2 i d) = cn (ix2 (σ i) d) := by
  have hw : ∀ i : Fin 50000, wrapIds s (ix2 i 0) = BitVec.ofNat 32 (σ i).val := fun i => by
    unfold wrapIds
    pointwise
    rw [hs i]
    refine wrap_of_lt _ _ ?_
    have := (σ i).isLt
    rw [BitVec.toNat_ofNat]
    omega
  unfold rowsAt
  have hm : ∀ p : S50000.Idx, Host.reduce IntOp.andi
        (andi (cmpi .sge (wrapIds s) (broadcastInDim S50000x1 ![] bcast_S_S50000x1 (constantI S_ 32 0#32)))
          (cmpi .sle (wrapIds s) (broadcastInDim S50000x1 ![0, 1] bcast_S1x1_S50000x1_0_1
            (broadcastInDim S1x1 ![1] bcast_S1_S1x1_1 (constantI S1 32 49999#32)))))
        (constantI S_ 1 1#1) reducesTo_S50000x1_S50000_d1 h_S_ p = 1#1 := fun p => by
    refine Host.reduce_andi_one _ _ _ _ _ rfl fun q => ?_
    obtain ⟨k, rfl⟩ : ∃ k : Fin 50000, q = ix2 k 0 := ⟨q 0, funext fun a => by
      fin_cases a
      · rfl
      · exact Fin.eq_of_val_eq (Nat.lt_one_iff.1 (q 1).isLt)⟩
    have hk := (σ k).isLt
    pointwise
    rw [hw k, WordCmp.cmpi_sge_eq, WordCmp.cmpi_sle_eq, WordCmp.andi_ofBool, WordCmp.ofBool_eq_one_iff,
      toInt_small (n := (σ k).val) (by omega)]
    simp
    omega
  rw [select_rows _ hm]
  exact gather_row gather_S50000x3_S50000x1_S50000x3_1_0_n_n_0_1_13 rfl rfl rfl rfl rfl cn (wrapIds s) i d (σ i) (hw i)
    (by decide)

/-- How many labels lie below a query: the number of the points whose label is less. -/
theorem below_apply (s : IVec S50000 32) (q : IVec S128 32) (f : Fin 50000 → Fin 128) (n : Nat) (hn : n ≤ 128)
    (hs : ∀ i, s (ix1 i) = BitVec.ofNat 32 (f i).val) (k : Fin 128) (hq : q (ix1 k) = BitVec.ofNat 32 n) :
    below s q (ix1 k) = BitVec.ofNat 32 (Finset.univ.filter fun i => (f i).val < n).card := by
  apply BitVec.eq_of_toNat_eq
  unfold below
  rw [StableHlo.Predicate.toNat_reduce_count_rows (by decide) _ _ _ _ (ix1 k), BitVec.toNat_ofNat,
    Nat.mod_eq_of_lt (Nat.lt_of_le_of_lt (Finset.card_le_univ _) (by simp))]
  refine congrArg Finset.card (Finset.filter_congr fun i _ => ?_)
  have hi := (f i).isLt
  change cmpi _ _ _ (StableHlo.Predicate.ij i k) = 1#1 ↔ _
  rw [ij_eq_ix2]
  pointwise
  rw [hs i, hq, WordCmp.cmpi_slt_eq, WordCmp.ofBool_eq_one_iff, toInt_small (by omega), toInt_small (by omega)]
  simp

/-- The count of a label is the number of points that have it. -/
theorem counts_apply (s : IVec S50000 32) (f : Fin 50000 → Fin 128) (hs : ∀ i, s (ix1 i) = BitVec.ofNat 32 (f i).val)
    (k : Fin 128) : counts s (ix1 k) = BitVec.ofNat 32 (Finset.univ.filter fun i => f i = k).card := by
  have hk := k.isLt
  have h1 := below_apply s (addi (broadcastInDim S128 ![] bcast_S_S128 (constantI S_ 32 1#32)) (iotaInDim S128 32 0)) f
    (k.val + 1) (by omega) hs k (by
      pointwise
      rw [Nat.add_comm, BitVec.ofNat_add]
      rfl)
  have h0 := below_apply s (iotaInDim S128 32 0) f k.val (by omega) hs k (by pointwise)
  have hc : (Finset.univ.filter fun i => (f i).val < k.val + 1).card =
      (Finset.univ.filter fun i => f i = k).card + (Finset.univ.filter fun i => (f i).val < k.val).card := by
    rw [← Finset.card_union_of_disjoint (Finset.disjoint_filter.2 fun i _ e => by rw [e]; exact lt_irrefl _),
      ← Finset.filter_or]
    refine congrArg Finset.card (Finset.filter_congr fun i _ => ?_)
    rw [Fin.ext_iff]
    omega
  unfold counts
  show IntOp.subi _ _ = _
  rw [h1, h0, hc, BitVec.ofNat_add]
  show _ + _ - _ = _
  rw [BitVec.add_sub_cancel]

/-- A row of updates lands in the row of its label. -/
theorem lands_row (idx : IVec S50000x1 32) (i : Fin 50000) (y : Fin 3) (k : Fin 128) (e : Fin 3) :
    scatter_S128x3_S50000x1_S50000x3_1_0_0_1.resultIdx? (ix2 i y) idx = some (ix2 k e) ↔
      (idx (ix2 i 0)).toInt = (k.val : Int) ∧ y = e := by
  have hstart0 : scatter_S128x3_S50000x1_S50000x3_1_0_0_1.start (ix2 i y) idx 0 = (idx (ix2 i 0)).toInt := by
    unfold ScatterDims.start
    rw [dif_pos (by decide)]
    refine congrArg (fun t => (idx t).toInt) (funext fun a => ?_)
    fin_cases a <;> rfl
  have hstart1 : scatter_S128x3_S50000x1_S50000x3_1_0_0_1.start (ix2 i y) idx 1 = 0 := by
    unfold ScatterDims.start
    rw [dif_neg (by decide)]
  have hwin0 : scatter_S128x3_S50000x1_S50000x3_1_0_0_1.window (ix2 i y) 0 = 0 := by
    unfold ScatterDims.window
    rw [dif_neg (by decide)]
  have hwin1 : scatter_S128x3_S50000x1_S50000x3_1_0_0_1.window (ix2 i y) 1 = y.val := by
    unfold ScatterDims.window
    rw [dif_pos (by decide)]
    rfl
  refine (resultIdx?_ix2 scatter_S128x3_S50000x1_S50000x3_1_0_0_1 (ix2 i y) idx k e).trans ?_
  rw [hstart0, hstart1, hwin0, hwin1, Fin.ext_iff]
  omega

/-- The sum of the rows of a label. -/
theorem sums_apply (s : IVec S50000 32) (rows : FVec Ideal S50000x3 .f32) (f : Fin 50000 → Fin 128)
    (hs : ∀ i, s (ix1 i) = BitVec.ofNat 32 (f i).val) (k : Fin 128) (e : Fin 3) :
    sums s rows (ix2 k e) = ∑ i ∈ Finset.univ.filter (fun i => f i = k), (rows (ix2 i e) : EReal) := by
  have hb : ∀ i : Fin 50000, broadcastInDim S50000x1 ![0] bcast_S50000_S50000x1_0 s (ix2 i 0) = BitVec.ofNat 32 (f i).val :=
    fun i => by
      pointwise
      exact hs i
  have hl : ∀ (i : Fin 50000) (y : Fin 3), scatter_S128x3_S50000x1_S50000x3_1_0_0_1.resultIdx? (ix2 i y)
      (broadcastInDim S50000x1 ![0] bcast_S50000_S50000x1_0 s) = some (ix2 k e) ↔ f i = k ∧ y = e := fun i y => by
    have := (f i).isLt
    rw [lands_row, hb, toInt_small (by omega), Fin.ext_iff (a := f i)]
    omega
  unfold sums
  unfold Host.scatterAdd
  rw [Ideal.hostScatterAdd_def]
  have hz : broadcastInDim S128x3 ![] bcast_S_S128x3 (constant (F := Ideal) S_ .f32 0x00000000#32) (ix2 k e) = (0 : EReal) := by
    pointwise
  show (_ : EReal) + _ = _
  rw [hz, zero_add]
  refine Finset.sum_nbij' (fun j : S50000x3.Idx => (j 0 : Fin 50000)) (fun i : Fin 50000 => ix2 i e) ?_ ?_ ?_ ?_ ?_
  · intro j hj
    rw [Finset.mem_filter] at hj
    exact Finset.mem_filter.2 ⟨Finset.mem_univ _, ((hl (j 0) (j 1)).1 ((congrArg (fun t => ScatterDims.resultIdx? _ t _) (eq_ix2 j).symm).trans hj.2)).1⟩
  · intro i hi
    rw [Finset.mem_filter] at hi
    exact Finset.mem_filter.2 ⟨Finset.mem_univ _, (hl i e).2 ⟨hi.2, rfl⟩⟩
  · intro j hj
    rw [Finset.mem_filter] at hj
    have := ((hl (j 0) (j 1)).1 ((congrArg (fun t => ScatterDims.resultIdx? _ t _) (eq_ix2 j).symm).trans hj.2)).2
    rw [← this]
    exact (eq_ix2 j).symm
  · intro i _
    rfl
  · intro j hj
    rw [Finset.mem_filter] at hj
    have := ((hl (j 0) (j 1)).1 ((congrArg (fun t => ScatterDims.resultIdx? _ t _) (eq_ix2 j).symm).trans hj.2)).2
    rw [← this]
    exact congrArg rows (eq_ix2 j)

end Cert.KMeans.Ker
-- ==== Proof.KerUpdate.lean ====
/-
  The kernel's new centroids are the reference's: sorting the points by label first changes neither the sum nor the number
  of the points of a label.
-/
module

public import proofs.«01_k».proof.Proof.KerCount

@[expose] public section

set_option maxRecDepth 16384

noncomputable section

namespace Cert.KMeans.Ker

open Idealize.ShloMosaic Idealize.SL.Sem Idealize.ShloMosaic.Routing
open Cert.KernelIdeal Cert.KernelIdeal.Facts₀

/-- A one of the reference's count lands at the label of its point. -/
theorem lands_one_label (idx : IVec S50000x1 32) (i : Fin 50000) (k : Fin 128) :
    Cert.ReferenceIdeal.scatter_S128_S50000x1_S50000_n_0_0_1.resultIdx? (ix1 i) idx = some (ix1 k) ↔
      (idx (ix2 i 0)).toInt = (k.val : Int) := by
  have hstart : Cert.ReferenceIdeal.scatter_S128_S50000x1_S50000_n_0_0_1.start (ix1 i) idx 0 = (idx (ix2 i 0)).toInt := by
    unfold ScatterDims.start
    rw [dif_pos (by decide)]
    refine congrArg (fun t => (idx t).toInt) (funext fun a => ?_)
    fin_cases a <;> rfl
  have hwin : Cert.ReferenceIdeal.scatter_S128_S50000x1_S50000_n_0_0_1.window (ix1 i) 0 = 0 := by
    unfold ScatterDims.window
    rw [dif_neg (by decide)]
  refine (resultIdx?_ix1 Cert.ReferenceIdeal.scatter_S128_S50000x1_S50000_n_0_0_1 (ix1 i) idx k).trans ?_
  rw [hstart, hwin]
  omega

/-- The reference's count of a label is the number of the points that have it. -/
theorem refCount_apply (l : IVec S50000 32) (f : Fin 50000 → Fin 128) (hl : ∀ i, l (ix1 i) = BitVec.ofNat 32 (f i).val)
    (k : Fin 128) :
    (Host.scatterAdd Cert.ReferenceIdeal.scatter_S128_S50000x1_S50000_n_0_0_1
      (broadcastInDim Cert.ReferenceIdeal.S128 ![] Cert.ReferenceIdeal.Facts₀.bcast_S_S128
        (constant (F := Ideal) Cert.ReferenceIdeal.S_ .f32 0x00000000#32))
      (broadcastInDim Cert.ReferenceIdeal.S50000x1 ![0] Cert.ReferenceIdeal.Facts₀.bcast_S50000_S50000x1_0 l) refOnes
      (ix1 k) : EReal) = (((Finset.univ.filter fun i => f i = k).card : ℝ) : EReal) := by
  have hb : ∀ i : Fin 50000,
      broadcastInDim Cert.ReferenceIdeal.S50000x1 ![0] Cert.ReferenceIdeal.Facts₀.bcast_S50000_S50000x1_0 l (ix2 i 0)
        = BitVec.ofNat 32 (f i).val := fun i => by
    pointwise
    exact hl i
  have hm : ∀ i : Fin 50000, Cert.ReferenceIdeal.scatter_S128_S50000x1_S50000_n_0_0_1.resultIdx? (ix1 i)
      (broadcastInDim Cert.ReferenceIdeal.S50000x1 ![0] Cert.ReferenceIdeal.Facts₀.bcast_S50000_S50000x1_0 l)
        = some (ix1 k) ↔ f i = k := fun i => by
    have := (f i).isLt
    rw [lands_one_label, hb, toInt_small (by omega), Fin.ext_iff (a := f i)]
    omega
  have h1 : ∀ j, refOnes j = (1 : EReal) := fun j => by
    unfold refOnes
    pointwise
  unfold Host.scatterAdd
  rw [Ideal.hostScatterAdd_def]
  have hz : broadcastInDim Cert.ReferenceIdeal.S128 ![] Cert.ReferenceIdeal.Facts₀.bcast_S_S128
      (constant (F := Ideal) Cert.ReferenceIdeal.S_ .f32 0x00000000#32) (ix1 k) = (0 : EReal) := by
    pointwise
  show (_ : EReal) + _ = _
  rw [hz, zero_add]
  have hs : ∀ s : Finset (Fin 50000), ∑ i ∈ s, (1 : EReal) = ((s.card : ℝ) : EReal) := fun s => by
    rw [Finset.sum_const, nsmul_one]
    rfl
  rw [← hs]
  refine Finset.sum_nbij' (fun j : S50000.Idx => (j 0 : Fin 50000)) (fun i : Fin 50000 => ix1 i) ?_ ?_ ?_ ?_ ?_
  · intro j hj
    rw [Finset.mem_filter] at hj
    exact Finset.mem_filter.2 ⟨Finset.mem_univ _,
      (hm (j 0)).1 ((congrArg (fun t => ScatterDims.resultIdx? _ t _) (eq_ix1 j).symm).trans hj.2)⟩
  · intro i hi
    rw [Finset.mem_filter] at hi
    exact Finset.mem_filter.2 ⟨Finset.mem_univ _, (hm i).2 hi.2⟩
  · intro j _
    exact (eq_ix1 j).symm
  · intro i _
    rfl
  · intro j _
    exact h1 j

/-- The kernel's new centroids are the reference's, for labels among the 128 and the numbers of the points in order. -/
theorem kerUpd_eq (cn : FVec Ideal S50000x3 .f32) (l : IVec S50000 32) (f : Fin 50000 → Fin 128)
    (hl : ∀ i, l (ix1 i) = BitVec.ofNat 32 (f i).val) : kerUpd cn l (iotaInDim S50000 32 0) = refUpd cn l := by
  obtain ⟨σ, hσ, hs, hi⟩ := sorted_perm l (iotaInDim S50000 32 0)
  have hs' : ∀ i, sortedLabels l (iotaInDim S50000 32 0) (ix1 i) = BitVec.ofNat 32 (f (σ i)).val := fun i =>
    (hs i).trans (hl (σ i))
  have hi' : ∀ i, sortedIds l (iotaInDim S50000 32 0) (ix1 i) = BitVec.ofNat 32 (σ i).val := fun i => by
    rw [hi i]
    pointwise
  have hsum : sums (sortedLabels l (iotaInDim S50000 32 0)) (rowsAt cn (wrapIds (sortedIds l (iotaInDim S50000 32 0))))
      = sums l cn := by
    have h : ∀ (k : Fin 128) (e : Fin 3), sums (sortedLabels l (iotaInDim S50000 32 0))
        (rowsAt cn (wrapIds (sortedIds l (iotaInDim S50000 32 0)))) (ix2 k e) = sums l cn (ix2 k e) := fun k e => by
      refine (sums_apply _ _ _ hs' k e).trans (Eq.trans ?_ (sums_apply _ _ _ hl k e).symm)
      exact Finset.sum_bijective σ hσ
        (fun i => ⟨fun h => Finset.mem_filter.2 ⟨Finset.mem_univ _, (Finset.mem_filter.1 h).2⟩,
          fun h => Finset.mem_filter.2 ⟨Finset.mem_univ _, (Finset.mem_filter.1 h).2⟩⟩)
        (fun i _ => rowsAt_apply cn _ σ hi' i e)
    funext j
    rw [eq_ix2 j]
    exact h (j 0) (j 1)
  have hcount : ∀ k : Fin 128, (sitofp (F := Ideal) .f32 (counts (sortedLabels l (iotaInDim S50000 32 0))) (ix1 k) : EReal)
      = (((Finset.univ.filter fun i => f i = k).card : ℝ) : EReal) := fun k => by
    have hc : (Finset.univ.filter fun i => f (σ i) = k).card = (Finset.univ.filter fun i => f i = k).card :=
      Finset.card_bijective σ hσ
        (fun i => ⟨fun h => Finset.mem_filter.2 ⟨Finset.mem_univ _, (Finset.mem_filter.1 h).2⟩,
          fun h => Finset.mem_filter.2 ⟨Finset.mem_univ _, (Finset.mem_filter.1 h).2⟩⟩)
    have hlt : (Finset.univ.filter fun i => f i = k).card < 2 ^ 31 :=
      Nat.lt_of_le_of_lt (Finset.card_le_univ _) (by simp)
    show (((counts _ (ix1 k)).toInt : ℝ) : EReal) = _
    rw [counts_apply _ _ hs' k, hc, toInt_small hlt, Int.cast_natCast]
  unfold kerUpd updOf refUpd
  rw [hsum]
  refine congrArg (Host.divf (sums l cn)) ?_
  refine congrArg (fun t => broadcastInDim S128x3 ![0, 1] bcast_S128x1_S128x3_0_1
    (broadcastInDim S128x1 ![0] bcast_S128_S128x1_0 (maximumf t
      (broadcastInDim S128 ![] bcast_S_S128 (constant (F := Ideal) S_ .f32 0x3F800000#32))))) ?_
  funext k
  rw [eq_ix1 k]
  exact (hcount (k 0)).trans (refCount_apply l f hl (k 0)).symm

/-- The column of labels of the laid-out centroids, as a vector, is the reference's labels. -/
theorem flat_labCol (cn : FVec Ideal S50000x3 .f32) (c : FVec Ideal S128x3 .f32) :
    flat (labCol cn (turned c)) = refLabels cn c := by
  funext j
  rw [eq_ix1 j]
  refine Eq.trans ?_ (refLabels_apply cn c (j 0)).symm
  unfold flat
  pointwise
  unfold labCol turned lab dist
  pointwise

/-- One iteration of the kernel's host code, from the column of labels it finds. -/
theorem step_eq (cn : FVec Ideal S50000x3 .f32) (c : FVec Ideal S128x3 .f32) :
    kerUpd cn (flat (labCol cn (turned c))) (iotaInDim S50000 32 0) = refUpd cn (refLabels cn c) := by
  rw [flat_labCol]
  exact kerUpd_eq cn _ (lab cn c) fun i => refLabels_apply cn c i

end Cert.KMeans.Ker
-- ==== Proof.KerReads.lean ====
/-
  What the kernel's buffers hold after each stretch of its host code.
-/
module

public import proofs.«01_k».proof.Proof.KerUpdate
public import Idealize.ShloMosaic.Lib.StableHlo.RunRead

@[expose] public section

set_option maxRecDepth 16384

noncomputable section

namespace Cert.KMeans.Ker

open Idealize.ShloMosaic Idealize.SL.Sem
open Idealize.ShloMosaic.StableHlo (after)
open Cert.KernelIdeal Cert.KernelIdeal.Gen

/-- The sorted labels and the points' numbers in that order, from the column of labels that a call leaves. -/
theorem sort_reads (V : Valuation τ sig (Elt Ideal)) :
    (after (hostOps1 (F := Ideal)) V (Proc.devRef .tc main_v18_0)
        = sortedLabels (flat (V (Proc.devRef .tc main_v16))) (V (Proc.devRef .tc main_v14)) ∧
      after (hostOps1 (F := Ideal)) V (Proc.devRef .tc main_v18_1)
        = sortedIds (flat (V (Proc.devRef .tc main_v16))) (V (Proc.devRef .tc main_v14))) ∧
    (after (hostOps2 (F := Ideal)) V (Proc.devRef .tc main_v39_0)
        = sortedLabels (flat (V (Proc.devRef .tc main_v37))) (V (Proc.devRef .tc main_v14)) ∧
      after (hostOps2 (F := Ideal)) V (Proc.devRef .tc main_v39_1)
        = sortedIds (flat (V (Proc.devRef .tc main_v37))) (V (Proc.devRef .tc main_v14))) ∧
    (after (hostOps3 (F := Ideal)) V (Proc.devRef .tc main_v60_0)
        = sortedLabels (flat (V (Proc.devRef .tc main_v58))) (V (Proc.devRef .tc main_v14)) ∧
      after (hostOps3 (F := Ideal)) V (Proc.devRef .tc main_v60_1)
        = sortedIds (flat (V (Proc.devRef .tc main_v58))) (V (Proc.devRef .tc main_v14))) ∧
    (after (hostOps4 (F := Ideal)) V (Proc.devRef .tc main_v81_0)
        = sortedLabels (flat (V (Proc.devRef .tc main_v79))) (V (Proc.devRef .tc main_v14)) ∧
      after (hostOps4 (F := Ideal)) V (Proc.devRef .tc main_v81_1)
        = sortedIds (flat (V (Proc.devRef .tc main_v79))) (V (Proc.devRef .tc main_v14))) ∧
    (after (hostOps5 (F := Ideal)) V (Proc.devRef .tc main_v102_0)
        = sortedLabels (flat (V (Proc.devRef .tc main_v100))) (V (Proc.devRef .tc main_v14)) ∧
      after (hostOps5 (F := Ideal)) V (Proc.devRef .tc main_v102_1)
        = sortedIds (flat (V (Proc.devRef .tc main_v100))) (V (Proc.devRef .tc main_v14))) ∧
    (after (hostOps6 (F := Ideal)) V (Proc.devRef .tc main_v123_0)
        = sortedLabels (flat (V (Proc.devRef .tc main_v121))) (V (Proc.devRef .tc main_v14)) ∧
      after (hostOps6 (F := Ideal)) V (Proc.devRef .tc main_v123_1)
        = sortedIds (flat (V (Proc.devRef .tc main_v121))) (V (Proc.devRef .tc main_v14))) ∧
    (after (hostOps7 (F := Ideal)) V (Proc.devRef .tc main_v144_0)
        = sortedLabels (flat (V (Proc.devRef .tc main_v142))) (V (Proc.devRef .tc main_v14)) ∧
      after (hostOps7 (F := Ideal)) V (Proc.devRef .tc main_v144_1)
        = sortedIds (flat (V (Proc.devRef .tc main_v142))) (V (Proc.devRef .tc main_v14))) ∧
    (after (hostOps8 (F := Ideal)) V (Proc.devRef .tc main_v165_0)
        = sortedLabels (flat (V (Proc.devRef .tc main_v163))) (V (Proc.devRef .tc main_v14)) ∧
      after (hostOps8 (F := Ideal)) V (Proc.devRef .tc main_v165_1)
        = sortedIds (flat (V (Proc.devRef .tc main_v163))) (V (Proc.devRef .tc main_v14))) ∧
    (after (hostOps9 (F := Ideal)) V (Proc.devRef .tc main_v186_0)
        = sortedLabels (flat (V (Proc.devRef .tc main_v184))) (V (Proc.devRef .tc main_v14)) ∧
      after (hostOps9 (F := Ideal)) V (Proc.devRef .tc main_v186_1)
        = sortedIds (flat (V (Proc.devRef .tc main_v184))) (V (Proc.devRef .tc main_v14))) := by
  refine ⟨?_, ?_, ?_, ?_, ?_, ?_, ?_, ?_, ?_⟩ <;>
    (refine ⟨?_, ?_⟩ <;>
      (dsimp only [hostOps1, hostOps2, hostOps3, hostOps4, hostOps5, hostOps6, hostOps7, hostOps8, hostOps9]
       after_reads_simp
       first
       | exact congrArg (fun l => sortedLabels l (V (Proc.devRef .tc main_v14))) (rfl : _ = flat _)
       | exact congrArg (fun l => sortedIds l (V (Proc.devRef .tc main_v14))) (rfl : _ = flat _)))

set_option maxHeartbeats 4000000 in
/-- The new centroids, laid out for the next call, from the sorted labels and the points' numbers in that order. -/
theorem upd_reads (V : Valuation τ sig (Elt Ideal)) :
    after (hostOps1_6 (F := Ideal)) (after hostOps1_5 (after hostOps1_4 (after hostOps1_3 (after hostOps1_2
      (after hostOps1_1 V))))) (Proc.devRef .tc main_v36)
        = turned (updOf (V (Proc.devRef .tc main_v11)) (V (Proc.devRef .tc main_v18_0)) (V (Proc.devRef .tc main_v18_1))) ∧
    after (hostOps2_6 (F := Ideal)) (after hostOps2_5 (after hostOps2_4 (after hostOps2_3 (after hostOps2_2
      (after hostOps2_1 V))))) (Proc.devRef .tc main_v57)
        = turned (updOf (V (Proc.devRef .tc main_v11)) (V (Proc.devRef .tc main_v39_0)) (V (Proc.devRef .tc main_v39_1))) ∧
    after (hostOps3_6 (F := Ideal)) (after hostOps3_5 (after hostOps3_4 (after hostOps3_3 (after hostOps3_2
      (after hostOps3_1 V))))) (Proc.devRef .tc main_v78)
        = turned (updOf (V (Proc.devRef .tc main_v11)) (V (Proc.devRef .tc main_v60_0)) (V (Proc.devRef .tc main_v60_1))) ∧
    after (hostOps4_6 (F := Ideal)) (after hostOps4_5 (after hostOps4_4 (after hostOps4_3 (after hostOps4_2
      (after hostOps4_1 V))))) (Proc.devRef .tc main_v99)
        = turned (updOf (V (Proc.devRef .tc main_v11)) (V (Proc.devRef .tc main_v81_0)) (V (Proc.devRef .tc main_v81_1))) ∧
    after (hostOps5_6 (F := Ideal)) (after hostOps5_5 (after hostOps5_4 (after hostOps5_3 (after hostOps5_2
      (after hostOps5_1 V))))) (Proc.devRef .tc main_v120)
        = turned (updOf (V (Proc.devRef .tc main_v11)) (V (Proc.devRef .tc main_v102_0)) (V (Proc.devRef .tc main_v102_1))) ∧
    after (hostOps6_6 (F := Ideal)) (after hostOps6_5 (after hostOps6_4 (after hostOps6_3 (after hostOps6_2
      (after hostOps6_1 V))))) (Proc.devRef .tc main_v141)
        = turned (updOf (V (Proc.devRef .tc main_v11)) (V (Proc.devRef .tc main_v123_0)) (V (Proc.devRef .tc main_v123_1))) ∧
    after (hostOps7_6 (F := Ideal)) (after hostOps7_5 (after hostOps7_4 (after hostOps7_3 (after hostOps7_2
      (after hostOps7_1 V))))) (Proc.devRef .tc main_v162)
        = turned (updOf (V (Proc.devRef .tc main_v11)) (V (Proc.devRef .tc main_v144_0)) (V (Proc.devRef .tc main_v144_1))) ∧
    after (hostOps8_6 (F := Ideal)) (after hostOps8_5 (after hostOps8_4 (after hostOps8_3 (after hostOps8_2
      (after hostOps8_1 V))))) (Proc.devRef .tc main_v183)
        = turned (updOf (V (Proc.devRef .tc main_v11)) (V (Proc.devRef .tc main_v165_0)) (V (Proc.devRef .tc main_v165_1))) ∧
    after (hostOps9_6 (F := Ideal)) (after hostOps9_5 (after hostOps9_4 (after hostOps9_3 (after hostOps9_2
      (after hostOps9_1 V))))) (Proc.devRef .tc main_v204)
        = turned (updOf (V (Proc.devRef .tc main_v11)) (V (Proc.devRef .tc main_v186_0)) (V (Proc.devRef .tc main_v186_1))) := by
  delta turned updOf sums counts below rowsAt wrapIds
  simp only [← StableHlo.after_append]
  refine ⟨?_, ?_, ?_, ?_, ?_, ?_, ?_, ?_, ?_⟩ <;>
    (dsimp only [
      hostOps1_1, hostOps1_2, hostOps1_3, hostOps1_4, hostOps1_5, hostOps1_6, hostOps2_1, hostOps2_2,
      hostOps2_3, hostOps2_4, hostOps2_5, hostOps2_6, hostOps3_1, hostOps3_2, hostOps3_3, hostOps3_4,
      hostOps3_5, hostOps3_6, hostOps4_1, hostOps4_2, hostOps4_3, hostOps4_4, hostOps4_5, hostOps4_6,
      hostOps5_1, hostOps5_2, hostOps5_3, hostOps5_4, hostOps5_5, hostOps5_6, hostOps6_1, hostOps6_2,
      hostOps6_3, hostOps6_4, hostOps6_5, hostOps6_6, hostOps7_1, hostOps7_2, hostOps7_3, hostOps7_4,
      hostOps7_5, hostOps7_6, hostOps8_1, hostOps8_2, hostOps8_3, hostOps8_4, hostOps8_5, hostOps8_6,
      hostOps9_1, hostOps9_2, hostOps9_3, hostOps9_4, hostOps9_5, hostOps9_6,
      main_call1, main_call4, main_call7, main_call10, main_call13, main_call16, main_call19,
      main_call22, main_call25, main_call1_call0, main_call4_call0, main_call7_call0, main_call10_call0,
      main_call13_call0, main_call16_call0, main_call19_call0, main_call22_call0, main_call25_call0,
      main_call2, main_call5, main_call8, main_call11, main_call14, main_call17, main_call20,
      main_call23, main_call26, main_call3, main_call6, main_call9, main_call12, main_call15,
      main_call18, main_call21, main_call24, main_call27, List.cons_append,
      List.nil_append]
     after_reads_simp
     simp -implicitDefEqProofs only [StableHlo.TRef.toBuf, StableHlo.TRef.ofBuf, cast_cast, cast_eq])

/-- The prefix: the points of the iterations, the first centroids and the points' numbers. -/
theorem pre_reads (V : Valuation τ sig (Elt Ideal)) :
    after (hostOps0_2 (F := Ideal)) (after hostOps0_1 (after hostOps0 V)) (Proc.devRef .tc main_v11)
      = normalized (V (Proc.devRef .tc main_arg1)) ∧
    after (hostOps0_2 (F := Ideal)) (after hostOps0_1 (after hostOps0 V)) (Proc.devRef .tc main_v14)
      = iotaInDim S50000 32 0 ∧
    after (hostOps0_2 (F := Ideal)) (after hostOps0_1 (after hostOps0 V)) (Proc.devRef .tc main_v15)
      = turned (cents0 (normalized (V (Proc.devRef .tc main_arg1)))) := by
  delta turned cents0 normalized variance
  simp only [← StableHlo.after_append]
  dsimp only [hostOps0, hostOps0_1, hostOps0_2, main_call0, main_call0_call0, main_call0_call0_call0, List.cons_append,
    List.nil_append]
  refine ⟨?_, ?_, ?_⟩ <;> after_reads_simp <;>
    simp -implicitDefEqProofs only [StableHlo.TRef.toBuf, StableHlo.TRef.ofBuf, cast_cast, cast_eq]

/-- The column of labels of the last call, as a vector and again as a column, goes into the indicator call. -/
theorem last_read (V : Valuation τ sig (Elt Ideal)) :
    after (hostOps10 (F := Ideal)) V (Proc.devRef .tc main_v207)
      = broadcastInDim S50000x1 ![0] Facts₀.bcast_S50000_S50000x1_0 (flat (V (Proc.devRef .tc main_v205))) := by
  dsimp only [hostOps10]
  after_reads_simp
  rfl

end Cert.KMeans.Ker
-- ==== Proof.KerHot.lean ====
/-
  The kernel's last call: its array holds, at every copy, point and label, one where the point has the label and zero
  elsewhere.  The reference's scatter of ones makes the same array.
-/
module

public import proofs.«01_k».proof.Proof.KerReads

@[expose] public section

set_option maxRecDepth 16384

noncomputable section

namespace Cert.KMeans.Ker

open Idealize.ShloMosaic Idealize.ShloMosaic.TcCoe Idealize.SL.Sem Idealize.ShloMosaic.Routing
open Idealize.ShloMosaic.Pipeline (Dat)
open Cert.KernelIdeal Cert.KernelIdeal.Gen

/-- The indicator array of a column of labels. -/
def hotCol (L : IVec S50000x1 32) : FVec Ideal S4x50000x128 .f32 := fun j =>
  if BitVec.ofNat 32 (j 2).val = L (ix2 (j 1) 0) then (1 : EReal) else (0 : EReal)

/-- The payload of the last call. -/
theorem hot_pay (a : Vec Ideal S2000x1 .i32) (i : Fin 2000) (k : Fin 128) :
    k10_pay1 a (ix3 0 i k) = if BitVec.ofNat 32 k.val = a (ix2 i 0) then (1 : EReal) else (0 : EReal) := by
  unfold k10_pay1
  dsimp only
  pointwise
  rw [WordCmp.cmpi_eq_eq]
  by_cases h : BitVec.ofNat 32 k.val = a (ix2 i 0)
  · have e : (1#32 : BitVec 32).toInt = 1 := by decide
    rw [if_pos h]
    simp only [h, decide_true]
    show (((1#32 : BitVec 32).toInt : ℝ) : EReal) = 1
    simp [e]
  · have e : (0#32 : BitVec 32).toInt = 0 := by decide
    rw [if_neg h]
    simp only [h, decide_false]
    show (((0#32 : BitVec 32).toInt : ℝ) : EReal) = 0
    simp [e]

/-- What the body of the last call leaves in its output block. -/
theorem block_hot (L : IVec S50000x1 32) (x0 : Vec Ideal S2000x1 .i32) (y : S1x2000x128.Idx) (j : S4x50000x128.Idx)
    (h0 : x0 (ix2 (y 1) 0) = L (ix2 (j 1) 0)) (h2 : (y 2).val = (j 2).val) : out10_1 x0 y = hotCol L j := by
  obtain ⟨i, k, rfl⟩ : ∃ (i : Fin 2000) (k : Fin 128), y = ix3 0 i k := ⟨y 1, y 2, funext fun a => by
    fin_cases a
    · exact Fin.eq_of_val_eq (Nat.lt_one_iff.1 (y 0).isLt)
    · rfl
    · rfl⟩
  unfold out10_1
  rw [View.canon_unit_zero (funext fun a => by fin_cases a <;> rfl)]
  refine (hot_pay _ i k).trans ?_
  unfold hotCol
  have a0 : View.ld x0 r10_0 (ix2 i 0) = L (ix2 (j 1) 0) :=
    (View.ld_unit_apply_of x0 _ _ _ (ix2 i 0) (ix2 i 0) fun a => by fin_cases a <;> simp).trans h0
  rw [a0, ← h2]
  rfl

/-- The blocks the last call's windows are at. -/
theorem idx10 : ∀ t : Fin cfg10.N, win10_0.index t = ![t.val % 25, 0] ∧ win10_1.index t = ![t.val / 25, t.val % 25, 0] :=
  (by decide +kernel : ∀ t : Fin grid10.N, _)

/-- The array the last call leaves, from the column of labels that it finds. -/
theorem region_hot (V : (c : Dev nD) → (b : Ref sig .tc) → Buf (Elt Ideal) ((c : Thread nD τ).loc b)) (c : Dev nD) :
    (dat10 V c).arrAt 1 cfg10.N = hotCol (V c main_v207) := by
  refine Dat.arrAt_eq_of_covers _ 1 _ (by decide +kernel) fun t _ y => ?_
  blk_simp
  simp only [after10_1]
  refine block_hot _ _ _ _ ?_ ?_
  · blk_simp [iblk10]
    exact congrArg _ (by blk_ext [idx10])
  · blk_simp
    simp [idx10]

/-- A one of the reference's scatter lands at the pair of words of its point. -/
theorem lands_pair (idx : IVec Cert.ReferenceIdeal.S50000x2 32) (p i : Fin 50000) (k : Fin 128) :
    Cert.ReferenceIdeal.scatter_S50000x128_S50000x2_S50000_n_01_01_1.resultIdx? (ix1 p) idx = some (ix2 i k) ↔
      (idx (ix2 p 0)).toInt = (i.val : Int) ∧ (idx (ix2 p 1)).toInt = (k.val : Int) := by
  have hstart0 : Cert.ReferenceIdeal.scatter_S50000x128_S50000x2_S50000_n_01_01_1.start (ix1 p) idx 0
      = (idx (ix2 p 0)).toInt := by
    unfold ScatterDims.start
    rw [dif_pos (by decide)]
    refine congrArg (fun t => (idx t).toInt) (funext fun a => ?_)
    fin_cases a <;> rfl
  have hstart1 : Cert.ReferenceIdeal.scatter_S50000x128_S50000x2_S50000_n_01_01_1.start (ix1 p) idx 1
      = (idx (ix2 p 1)).toInt := by
    unfold ScatterDims.start
    rw [dif_pos (by decide)]
    refine congrArg (fun t => (idx t).toInt) (funext fun a => ?_)
    fin_cases a <;> rfl
  have hwin0 : Cert.ReferenceIdeal.scatter_S50000x128_S50000x2_S50000_n_01_01_1.window (ix1 p) 0 = 0 := by
    unfold ScatterDims.window
    rw [dif_neg (by decide)]
  have hwin1 : Cert.ReferenceIdeal.scatter_S50000x128_S50000x2_S50000_n_01_01_1.window (ix1 p) 1 = 0 := by
    unfold ScatterDims.window
    rw [dif_neg (by decide)]
  refine (resultIdx?_ix2 Cert.ReferenceIdeal.scatter_S50000x128_S50000x2_S50000_n_01_01_1 (ix1 p) idx i k).trans ?_
  rw [hstart0, hstart1, hwin0, hwin1]
  omega

/-- The two columns side by side, read in each column. -/
theorem twoCols_apply (a b : IVec Cert.ReferenceIdeal.S50000x1 32) (p : Fin 50000) :
    twoCols a b (ix2 p 0) = a (ix2 p 0) ∧ twoCols a b (ix2 p 1) = b (ix2 p 0) := by
  unfold twoCols
  constructor <;> pointwise

/-- A scatter of ones into zeros at the pairs of a point and its label. -/
theorem scatter_hot (Z : FVec Ideal Cert.ReferenceIdeal.S50000x128 .f32) (T : IVec Cert.ReferenceIdeal.S50000x2 32)
    (O : FVec Ideal Cert.ReferenceIdeal.S50000 .f32) (f : Fin 50000 → Fin 128)
    (hT : ∀ p : Fin 50000, T (ix2 p 0) = BitVec.ofNat 32 p.val ∧ T (ix2 p 1) = BitVec.ofNat 32 (f p).val)
    (hZ : ∀ j, Z j = (0 : EReal)) (hO : ∀ j, O j = (1 : EReal)) (i : Fin 50000) (k : Fin 128) :
    Host.scatter Cert.ReferenceIdeal.scatter_S50000x128_S50000x2_S50000_n_01_01_1 (fun _ b => b) Z T O (ix2 i k)
      = if f i = k then (1 : EReal) else (0 : EReal) := by
  have hm : ∀ p : Fin 50000, Cert.ReferenceIdeal.scatter_S50000x128_S50000x2_S50000_n_01_01_1.resultIdx? (ix1 p) T
      = some (ix2 i k) ↔ p = i ∧ f p = k := fun p => by
    have h1 := p.isLt
    have h2 := (f p).isLt
    rw [lands_pair, (hT p).1, (hT p).2, toInt_small (by omega), toInt_small (by omega), Fin.ext_iff, Fin.ext_iff]
    omega
  by_cases h : f i = k
  · rw [if_pos h]
    exact scatter_set_hit _ Z T O _ _ (fun j _ => hO j) (ix1 i) ((hm i).2 ⟨rfl, h⟩)
  · rw [if_neg h]
    refine (scatter_set_miss _ Z T O _ fun j hj => h ?_).trans (hZ _)
    have := (hm (j 0)).1 ((congrArg (fun t => ScatterDims.resultIdx? _ t T) (eq_ix1 j).symm).trans hj)
    rw [← this.1]
    exact this.2

/-- The reference's indicator array, for labels among the 128: one where the point has the label, zero elsewhere. -/
theorem refHot_apply (l : IVec S50000 32) (f : Fin 50000 → Fin 128) (hl : ∀ i, l (ix1 i) = BitVec.ofNat 32 (f i).val)
    (b : Fin 4) (i : Fin 50000) (k : Fin 128) :
    refHot l (ix3 b i k) = if f i = k then (1 : EReal) else (0 : EReal) := by
  unfold refHot
  pointwise
  refine scatter_hot _ _ _ f (fun p => ⟨?_, ?_⟩) (fun j => ?_) (fun j => ?_) i k
  · have := p.isLt
    rw [(twoCols_apply _ _ p).1]
    pointwise
    refine wrap_of_lt _ _ ?_
    rw [BitVec.toNat_ofNat]
    omega
  · have := (f p).isLt
    rw [(twoCols_apply _ _ p).2]
    pointwise
    rw [hl p]
    refine wrap_of_lt _ _ ?_
    rw [BitVec.toNat_ofNat]
    omega
  · rw [eq_ix2 j]
    pointwise
  · rw [eq_ix1 j]
    pointwise

/-- The kernel's indicator array of the labels of the 128 is the reference's. -/
theorem hot_eq (l : IVec S50000 32) (f : Fin 50000 → Fin 128) (hl : ∀ i, l (ix1 i) = BitVec.ofNat 32 (f i).val) :
    hotCol (broadcastInDim S50000x1 ![0] Facts₀.bcast_S50000_S50000x1_0 l) = refHot l := by
  have h : ∀ (b : Fin 4) (i : Fin 50000) (k : Fin 128),
      hotCol (broadcastInDim S50000x1 ![0] Facts₀.bcast_S50000_S50000x1_0 l) (ix3 b i k) = refHot l (ix3 b i k) :=
    fun b i k => by
      have h1 := (f i).isLt
      have h2 := k.isLt
      have e : broadcastInDim S50000x1 ![0] Facts₀.bcast_S50000_S50000x1_0 l (ix2 i 0) = BitVec.ofNat 32 (f i).val := by
        pointwise
        exact hl i
      rw [refHot_apply l f hl]
      show (if BitVec.ofNat 32 k.val = broadcastInDim S50000x1 ![0] Facts₀.bcast_S50000_S50000x1_0 l (ix2 i 0)
        then (1 : EReal) else 0) = _
      rw [e]
      refine if_congr ?_ rfl rfl
      rw [WordCmp.ofNat_eq_ofNat_iff (by omega) (by omega), Fin.ext_iff]
      exact eq_comm
  funext j
  rw [eq_ix3 j]
  exact h (j 0) (j 1) (j 2)

end Cert.KMeans.Ker
-- ==== Proof.KerEntries.lean ====
/-
  The contents of the kernel's buffers at the entry of each call, and its result.
-/
module

public import proofs.«01_k».proof.Proof.KerHot

@[expose] public section

set_option maxRecDepth 16384

noncomputable section

namespace Cert.KMeans.Ker

open Idealize.ShloMosaic Idealize.ShloMosaic.TcCoe
open Idealize.SL.Sem
open Idealize.ShloMosaic.StableHlo (after)
open Cert.KernelIdeal Cert.KernelIdeal.Gen

/-- The buffers that every iteration reads and none writes: the points and their numbers. -/
abbrev keptRefs : List (Ref sig .tc) := [main_v11, main_v14]

/-- At the entry of a call: the points, their numbers, and the `n`-th centroids laid out in `T`. -/
def Entry (x : FVec Ideal S50000x3 .f32) (n : Nat) (V : Valuation τ sig (Elt Ideal)) (T : FVec Ideal S3x128 .f32) : Prop :=
  V (Proc.devRef .tc main_v11) = normalized x ∧ V (Proc.devRef .tc main_v14) = iotaInDim S50000 32 0 ∧
    T = turned (refCents (normalized x) n)

/-- What a stretch of host operations writes is in a list of buffers. -/
abbrev WritesIn (ops : List (HloOp τ sig (Elt Ideal))) (w : List (Ref sig .tc)) : Prop :=
  ops.Forall fun op => op.writes ⊆ (w.map (Proc.devRef (τ := τ) .tc)).toFinset

/-- Six stretches of host operations keep a buffer that none of them writes. -/
theorem kept_six {o₁ o₂ o₃ o₄ o₅ o₆ : List (HloOp τ sig (Elt Ideal))} {w₁ w₂ w₃ w₄ w₅ w₆ : List (Ref sig .tc)}
    (h₁ : WritesIn o₁ w₁) (h₂ : WritesIn o₂ w₂) (h₃ : WritesIn o₃ w₃) (h₄ : WritesIn o₄ w₄) (h₅ : WritesIn o₅ w₅)
    (h₆ : WritesIn o₆ w₆) (V : Valuation τ sig (Elt Ideal)) (r : Ref sig .tc)
    (h : r ∉ w₁ ∧ r ∉ w₂ ∧ r ∉ w₃ ∧ r ∉ w₄ ∧ r ∉ w₅ ∧ r ∉ w₆) :
    after o₆ (after o₅ (after o₄ (after o₃ (after o₂ (after o₁ V))))) (Proc.devRef .tc r) = V (Proc.devRef .tc r) := by
  obtain ⟨a₁, a₂, a₃, a₄, a₅, a₆⟩ := h
  rw [StableHlo.after_of_writes_sub o₆ _ h₆ a₆, StableHlo.after_of_writes_sub o₅ _ h₅ a₅,
    StableHlo.after_of_writes_sub o₄ _ h₄ a₄, StableHlo.after_of_writes_sub o₃ _ h₃ a₃,
    StableHlo.after_of_writes_sub o₂ _ h₂ a₂, StableHlo.after_of_writes_sub o₁ _ h₁ a₁]

/-- One iteration: from the entry of a call, at `V`, through its exit, at `X`, and the sort, at `Y`, to the entry of the next
    call, at `Z`. -/
theorem Entry.next {x : FVec Ideal S50000x3 .f32} {n : Nat} {V X Y Z : Valuation τ sig (Elt Ideal)}
    {T T' : FVec Ideal S3x128 .f32} {L : IVec S50000x1 32} {s ids : IVec S50000 32} (h : Entry x n V T)
    (hL : L = labCol (V (Proc.devRef .tc main_v11)) T)
    (hX : ∀ r ∈ keptRefs, X (Proc.devRef .tc r) = V (Proc.devRef .tc r))
    (hs : s = sortedLabels (flat L) (X (Proc.devRef .tc main_v14)) ∧ ids = sortedIds (flat L) (X (Proc.devRef .tc main_v14)))
    (hY : ∀ r ∈ keptRefs, Y (Proc.devRef .tc r) = X (Proc.devRef .tc r))
    (hT : T' = turned (updOf (Y (Proc.devRef .tc main_v11)) s ids))
    (hZ : ∀ r ∈ keptRefs, Z (Proc.devRef .tc r) = Y (Proc.devRef .tc r)) : Entry x (n + 1) Z T' := by
  obtain ⟨hp, hi, ht⟩ := h
  have m₁ : main_v11 ∈ keptRefs := by decide
  have m₂ : main_v14 ∈ keptRefs := by decide
  have y₁ := (hY _ m₁).trans ((hX _ m₁).trans hp)
  refine ⟨(hZ _ m₁).trans y₁, (hZ _ m₂).trans ((hY _ m₂).trans ((hX _ m₂).trans hi)), ?_⟩
  rw [hT, hs.1, hs.2, y₁, hX _ m₂, hi, hL, hp, ht]
  exact congrArg turned (step_eq (normalized x) (refCents (normalized x) n))

variable (m : (ℓ : Loc nD τ sig) → Buf (Elt Ideal) ℓ) (ρ : Dev nD → PrngReg)

/-- The entry of the first call. -/
theorem entry0 (c : Dev nD) :
    Entry (m ((c : Thread nD τ).loc main_arg1)) 0 (W3 m ρ c) (W3 m ρ c (Proc.devRef .tc main_v15)) :=
  pre_reads (W0 m ρ c)

/-- The entry of the call after 1 iteration. -/
theorem entry1 (c : Dev nD) :
    Entry (m ((c : Thread nD τ).loc main_arg1)) 1 (W11 m ρ c) (W11 m ρ c (Proc.devRef .tc main_v36)) :=
  (entry0 m ρ c).next (X := W4 m ρ c) (Y := W5 m ρ c)
    ((W4_arr m ρ c 2).trans (regions (V3 m ρ) c).1)
    (fun r hr => W4_of m ρ c r ((ListAll.forall_mem_of_all_decide (by decide +kernel) :
      ∀ r ∈ keptRefs, ∀ w : Fin cfg0.W, Pipeline.arrRef spec0 w = r → (cfg0.win w).isOut = false) r hr))
    (sort_reads (W4 m ρ c)).1
    (fun r hr => W5_of m ρ c r ((by decide : ∀ r ∈ keptRefs, r ∉ hostOps1_W) r hr))
    (upd_reads (W5 m ρ c)).1
    (fun r hr => kept_six hostOps1_1_writes hostOps1_2_writes hostOps1_3_writes hostOps1_4_writes
      hostOps1_5_writes hostOps1_6_writes _ r ((by decide : ∀ r ∈ keptRefs, r ∉ hostOps1_1_W ∧ r ∉ hostOps1_2_W ∧
        r ∉ hostOps1_3_W ∧ r ∉ hostOps1_4_W ∧ r ∉ hostOps1_5_W ∧ r ∉ hostOps1_6_W) r hr))

/-- The entry of the call after 2 iterations. -/
theorem entry2 (c : Dev nD) :
    Entry (m ((c : Thread nD τ).loc main_arg1)) 2 (W19 m ρ c) (W19 m ρ c (Proc.devRef .tc main_v57)) :=
  (entry1 m ρ c).next (X := W12 m ρ c) (Y := W13 m ρ c)
    ((W12_arr m ρ c 2).trans (regions (V11 m ρ) c).2.1)
    (fun r hr => W12_of m ρ c r ((ListAll.forall_mem_of_all_decide (by decide +kernel) :
      ∀ r ∈ keptRefs, ∀ w : Fin cfg1.W, Pipeline.arrRef spec1 w = r → (cfg1.win w).isOut = false) r hr))
    (sort_reads (W12 m ρ c)).2.1
    (fun r hr => W13_of m ρ c r ((by decide : ∀ r ∈ keptRefs, r ∉ hostOps2_W) r hr))
    (upd_reads (W13 m ρ c)).2.1
    (fun r hr => kept_six hostOps2_1_writes hostOps2_2_writes hostOps2_3_writes hostOps2_4_writes
      hostOps2_5_writes hostOps2_6_writes _ r ((by decide : ∀ r ∈ keptRefs, r ∉ hostOps2_1_W ∧ r ∉ hostOps2_2_W ∧
        r ∉ hostOps2_3_W ∧ r ∉ hostOps2_4_W ∧ r ∉ hostOps2_5_W ∧ r ∉ hostOps2_6_W) r hr))

/-- The entry of the call after 3 iterations. -/
theorem entry3 (c : Dev nD) :
    Entry (m ((c : Thread nD τ).loc main_arg1)) 3 (W27 m ρ c) (W27 m ρ c (Proc.devRef .tc main_v78)) :=
  (entry2 m ρ c).next (X := W20 m ρ c) (Y := W21 m ρ c)
    ((W20_arr m ρ c 2).trans (regions (V19 m ρ) c).2.2.1)
    (fun r hr => W20_of m ρ c r ((ListAll.forall_mem_of_all_decide (by decide +kernel) :
      ∀ r ∈ keptRefs, ∀ w : Fin cfg2.W, Pipeline.arrRef spec2 w = r → (cfg2.win w).isOut = false) r hr))
    (sort_reads (W20 m ρ c)).2.2.1
    (fun r hr => W21_of m ρ c r ((by decide : ∀ r ∈ keptRefs, r ∉ hostOps3_W) r hr))
    (upd_reads (W21 m ρ c)).2.2.1
    (fun r hr => kept_six hostOps3_1_writes hostOps3_2_writes hostOps3_3_writes hostOps3_4_writes
      hostOps3_5_writes hostOps3_6_writes _ r ((by decide : ∀ r ∈ keptRefs, r ∉ hostOps3_1_W ∧ r ∉ hostOps3_2_W ∧
        r ∉ hostOps3_3_W ∧ r ∉ hostOps3_4_W ∧ r ∉ hostOps3_5_W ∧ r ∉ hostOps3_6_W) r hr))

/-- The entry of the call after 4 iterations. -/
theorem entry4 (c : Dev nD) :
    Entry (m ((c : Thread nD τ).loc main_arg1)) 4 (W35 m ρ c) (W35 m ρ c (Proc.devRef .tc main_v99)) :=
  (entry3 m ρ c).next (X := W28 m ρ c) (Y := W29 m ρ c)
    ((W28_arr m ρ c 2).trans (regions (V27 m ρ) c).2.2.2.1)
    (fun r hr => W28_of m ρ c r ((ListAll.forall_mem_of_all_decide (by decide +kernel) :
      ∀ r ∈ keptRefs, ∀ w : Fin cfg3.W, Pipeline.arrRef spec3 w = r → (cfg3.win w).isOut = false) r hr))
    (sort_reads (W28 m ρ c)).2.2.2.1
    (fun r hr => W29_of m ρ c r ((by decide : ∀ r ∈ keptRefs, r ∉ hostOps4_W) r hr))
    (upd_reads (W29 m ρ c)).2.2.2.1
    (fun r hr => kept_six hostOps4_1_writes hostOps4_2_writes hostOps4_3_writes hostOps4_4_writes
      hostOps4_5_writes hostOps4_6_writes _ r ((by decide : ∀ r ∈ keptRefs, r ∉ hostOps4_1_W ∧ r ∉ hostOps4_2_W ∧
        r ∉ hostOps4_3_W ∧ r ∉ hostOps4_4_W ∧ r ∉ hostOps4_5_W ∧ r ∉ hostOps4_6_W) r hr))

/-- The entry of the call after 5 iterations. -/
theorem entry5 (c : Dev nD) :
    Entry (m ((c : Thread nD τ).loc main_arg1)) 5 (W43 m ρ c) (W43 m ρ c (Proc.devRef .tc main_v120)) :=
  (entry4 m ρ c).next (X := W36 m ρ c) (Y := W37 m ρ c)
    ((W36_arr m ρ c 2).trans (regions (V35 m ρ) c).2.2.2.2.1)
    (fun r hr => W36_of m ρ c r ((ListAll.forall_mem_of_all_decide (by decide +kernel) :
      ∀ r ∈ keptRefs, ∀ w : Fin cfg4.W, Pipeline.arrRef spec4 w = r → (cfg4.win w).isOut = false) r hr))
    (sort_reads (W36 m ρ c)).2.2.2.2.1
    (fun r hr => W37_of m ρ c r ((by decide : ∀ r ∈ keptRefs, r ∉ hostOps5_W) r hr))
    (upd_reads (W37 m ρ c)).2.2.2.2.1
    (fun r hr => kept_six hostOps5_1_writes hostOps5_2_writes hostOps5_3_writes hostOps5_4_writes
      hostOps5_5_writes hostOps5_6_writes _ r ((by decide : ∀ r ∈ keptRefs, r ∉ hostOps5_1_W ∧ r ∉ hostOps5_2_W ∧
        r ∉ hostOps5_3_W ∧ r ∉ hostOps5_4_W ∧ r ∉ hostOps5_5_W ∧ r ∉ hostOps5_6_W) r hr))

/-- The entry of the call after 6 iterations. -/
theorem entry6 (c : Dev nD) :
    Entry (m ((c : Thread nD τ).loc main_arg1)) 6 (W51 m ρ c) (W51 m ρ c (Proc.devRef .tc main_v141)) :=
  (entry5 m ρ c).next (X := W44 m ρ c) (Y := W45 m ρ c)
    ((W44_arr m ρ c 2).trans (regions (V43 m ρ) c).2.2.2.2.2.1)
    (fun r hr => W44_of m ρ c r ((ListAll.forall_mem_of_all_decide (by decide +kernel) :
      ∀ r ∈ keptRefs, ∀ w : Fin cfg5.W, Pipeline.arrRef spec5 w = r → (cfg5.win w).isOut = false) r hr))
    (sort_reads (W44 m ρ c)).2.2.2.2.2.1
    (fun r hr => W45_of m ρ c r ((by decide : ∀ r ∈ keptRefs, r ∉ hostOps6_W) r hr))
    (upd_reads (W45 m ρ c)).2.2.2.2.2.1
    (fun r hr => kept_six hostOps6_1_writes hostOps6_2_writes hostOps6_3_writes hostOps6_4_writes
      hostOps6_5_writes hostOps6_6_writes _ r ((by decide : ∀ r ∈ keptRefs, r ∉ hostOps6_1_W ∧ r ∉ hostOps6_2_W ∧
        r ∉ hostOps6_3_W ∧ r ∉ hostOps6_4_W ∧ r ∉ hostOps6_5_W ∧ r ∉ hostOps6_6_W) r hr))

/-- The entry of the call after 7 iterations. -/
theorem entry7 (c : Dev nD) :
    Entry (m ((c : Thread nD τ).loc main_arg1)) 7 (W59 m ρ c) (W59 m ρ c (Proc.devRef .tc main_v162)) :=
  (entry6 m ρ c).next (X := W52 m ρ c) (Y := W53 m ρ c)
    ((W52_arr m ρ c 2).trans (regions (V51 m ρ) c).2.2.2.2.2.2.1)
    (fun r hr => W52_of m ρ c r ((ListAll.forall_mem_of_all_decide (by decide +kernel) :
      ∀ r ∈ keptRefs, ∀ w : Fin cfg6.W, Pipeline.arrRef spec6 w = r → (cfg6.win w).isOut = false) r hr))
    (sort_reads (W52 m ρ c)).2.2.2.2.2.2.1
    (fun r hr => W53_of m ρ c r ((by decide : ∀ r ∈ keptRefs, r ∉ hostOps7_W) r hr))
    (upd_reads (W53 m ρ c)).2.2.2.2.2.2.1
    (fun r hr => kept_six hostOps7_1_writes hostOps7_2_writes hostOps7_3_writes hostOps7_4_writes
      hostOps7_5_writes hostOps7_6_writes _ r ((by decide : ∀ r ∈ keptRefs, r ∉ hostOps7_1_W ∧ r ∉ hostOps7_2_W ∧
        r ∉ hostOps7_3_W ∧ r ∉ hostOps7_4_W ∧ r ∉ hostOps7_5_W ∧ r ∉ hostOps7_6_W) r hr))

/-- The entry of the call after 8 iterations. -/
theorem entry8 (c : Dev nD) :
    Entry (m ((c : Thread nD τ).loc main_arg1)) 8 (W67 m ρ c) (W67 m ρ c (Proc.devRef .tc main_v183)) :=
  (entry7 m ρ c).next (X := W60 m ρ c) (Y := W61 m ρ c)
    ((W60_arr m ρ c 2).trans (regions (V59 m ρ) c).2.2.2.2.2.2.2.1)
    (fun r hr => W60_of m ρ c r ((ListAll.forall_mem_of_all_decide (by decide +kernel) :
      ∀ r ∈ keptRefs, ∀ w : Fin cfg7.W, Pipeline.arrRef spec7 w = r → (cfg7.win w).isOut = false) r hr))
    (sort_reads (W60 m ρ c)).2.2.2.2.2.2.2.1
    (fun r hr => W61_of m ρ c r ((by decide : ∀ r ∈ keptRefs, r ∉ hostOps8_W) r hr))
    (upd_reads (W61 m ρ c)).2.2.2.2.2.2.2.1
    (fun r hr => kept_six hostOps8_1_writes hostOps8_2_writes hostOps8_3_writes hostOps8_4_writes
      hostOps8_5_writes hostOps8_6_writes _ r ((by decide : ∀ r ∈ keptRefs, r ∉ hostOps8_1_W ∧ r ∉ hostOps8_2_W ∧
        r ∉ hostOps8_3_W ∧ r ∉ hostOps8_4_W ∧ r ∉ hostOps8_5_W ∧ r ∉ hostOps8_6_W) r hr))

/-- The entry of the call after 9 iterations. -/
theorem entry9 (c : Dev nD) :
    Entry (m ((c : Thread nD τ).loc main_arg1)) 9 (W75 m ρ c) (W75 m ρ c (Proc.devRef .tc main_v204)) :=
  (entry8 m ρ c).next (X := W68 m ρ c) (Y := W69 m ρ c)
    ((W68_arr m ρ c 2).trans (regions (V67 m ρ) c).2.2.2.2.2.2.2.2.1)
    (fun r hr => W68_of m ρ c r ((ListAll.forall_mem_of_all_decide (by decide +kernel) :
      ∀ r ∈ keptRefs, ∀ w : Fin cfg8.W, Pipeline.arrRef spec8 w = r → (cfg8.win w).isOut = false) r hr))
    (sort_reads (W68 m ρ c)).2.2.2.2.2.2.2.2
    (fun r hr => W69_of m ρ c r ((by decide : ∀ r ∈ keptRefs, r ∉ hostOps9_W) r hr))
    (upd_reads (W69 m ρ c)).2.2.2.2.2.2.2.2
    (fun r hr => kept_six hostOps9_1_writes hostOps9_2_writes hostOps9_3_writes hostOps9_4_writes
      hostOps9_5_writes hostOps9_6_writes _ r ((by decide : ∀ r ∈ keptRefs, r ∉ hostOps9_1_W ∧ r ∉ hostOps9_2_W ∧
        r ∉ hostOps9_3_W ∧ r ∉ hostOps9_4_W ∧ r ∉ hostOps9_5_W ∧ r ∉ hostOps9_6_W) r hr))

/-- The kernel's result: the indicator array of the reference's final labels. -/
theorem result (c : Dev nD) : W78 m ρ c (Proc.devRef .tc main_v208)
    = refHot (Ref.finalLabels (m ((c : Thread nD τ).loc main_arg1))) := by
  obtain ⟨hp, -, ht⟩ := entry9 m ρ c
  have hl : (dat9 (V75 m ρ) c).arrAt 2 cfg9.N = labCol (normalized (m ((c : Thread nD τ).loc main_arg1)))
      (turned (refCents (normalized (m ((c : Thread nD τ).loc main_arg1))) 9)) :=
    (regions (V75 m ρ) c).2.2.2.2.2.2.2.2.2.trans (congrArg₂ labCol hp ht)
  have hf : flat (W76 m ρ c (Proc.devRef .tc main_v205)) = Ref.finalLabels (m ((c : Thread nD τ).loc main_arg1)) :=
    (congrArg flat ((W76_arr m ρ c 2).trans hl)).trans (flat_labCol _ _)
  refine (W78_arr m ρ c 1).trans ((region_hot (V77 m ρ) c).trans ?_)
  refine (congrArg hotCol ((last_read (W76 m ρ c)).trans (congrArg _ hf))).trans ?_
  exact hot_eq _ (lab _ _) fun i => refLabels_apply _ _ i

end Cert.KMeans.Ker
-- ==== Proof.KerRun.lean ====
/-
  The kernel's run: it ends with the indicator array of the reference's final labels and with its arguments as launched.
-/
module

public import proofs.«01_k».proof.Proof.KerEntries
public import proofs.«01_k».proof.Proof.Gen.KernelIdeal.Frame

@[expose] public section

set_option maxRecDepth 16384

noncomputable section

namespace Cert.KMeans.Ker

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable (m : (ℓ : Loc nD τ sig) → Buf (Elt Ideal) ℓ) (ρ : Dev nD → PrngReg)

local notation "𝕄" => MT nD τ sig Unit (Elt Ideal) ℕ (UR sig nD τ) ℕ

/-- The launch state of the pipelines' cells. -/
abbrev launched : UR sig nD τ := initOf (Pipeline.cells cfgs cellOf_inj) (Pipeline.launchToks cfgs cellOf_inj)

set_option backward.isDefEq.respectTransparency.types false in
/-- The kernel runs: its result is the indicator array of the final labels, and its arguments are kept. -/
theorem run : θ_run (defs (F := Ideal)) (onTc (τ := τ) (main (F := Ideal))) ⟨m, fun _ => 0, ρ⟩ (fun r => ∀ c : Dev nD,
    r.2.mem ((c.tc : Thread nD τ).loc main_v208) = refHot (Ref.finalLabels (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_sems (pcfgs (F := Ideal)) adm (pdats m ρ) () cellOf_inj emb₁ defs₀ 𝒱₀ L lv m ρ main
    (segs m ρ) (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := launched) (hu₀ := ?_)
    (T₀ := fun c => iprop(StableHlo.held (c : Thread nD τ) (Pipeline.ucRefs τ sig) (W0 m ρ c) ∗ R c)) (Tₙ := Tₙ m ρ)
    (hch := ?_) (hinit := ?_)
    (QY := fun c s => ∀ b ∈ Pipeline.ucRefs τ sig, s.mem (((c : Thread nD τ)).1, b) = W78 m ρ c b)
    (hfin := fun c s => ?_) (hQ := fun s h _ c => ?_)
  · iintro Hu
    imodintro
    isplitl [Hu]
    · iapply (show (ownU launched : sProp 𝕄) ⊢ BI.own (emb₁ launched) from .rfl)
      iexact Hu
    · iapply (show (BI.emp : sProp 𝕄) ⊢ bigSep Finset.univ (fun _ : Dev nD => (BI.emp : sProp 𝕄)) from by
        rw [BI.bigSep_emp_const])
      iempintro
  · repeat' first
      | exact fun _ => .rfl
      | refine And.intro ?_ ?_
  · refine Pipeline.initEach L lv fun c => ?_
    rw [show unscopedBufs c (fun b => m ((c : Thread nD τ).loc b))
      = StableHlo.held (c : Thread nD τ) (Pipeline.ucRefs τ sig) (W0 m ρ c) from Pipeline.unscopedBufs_held c (W0 m ρ c)]
    iintro ⟨⟨Hbufs, -, Howed, -, Hgen, -⟩, -⟩
    imodintro
    isplitl [Hbufs]
    · iexact Hbufs
    isplitl [Hgen]
    · iexists _
      iexact Hgen
    · iexists ∅
      iexact Howed
  · iintro ⟨⟨Hbufs, -⟩, Hstate⟩
    unfold StableHlo.held
    imodintro
    iapply (pointsTo_read_all (Pipeline.ucRefs τ sig) (fun b => (((c : Thread nD τ)).1, b)) (W78 m ρ c) s)
    isplitl [Hbufs] <;> iassumption
  · exact ⟨(h c _ (mem_uc main_v208 (by decide))).trans (result m ρ c),
      (h c _ (mem_uc main_arg0 (by decide))).trans (W78_main_arg0 m ρ c),
      (h c _ (mem_uc main_arg1 (by decide))).trans (W78_main_arg1 m ρ c)⟩

end Cert.KMeans.Ker
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.KerRun

public import Idealize.ShloMosaic.Adequacy
public import Idealize.ShloMosaic.Init

@[expose] public section

noncomputable section

namespace Cert.Proof

open Idealize.ShloMosaic Idealize.SL.Sem Cert.Kernel

/-- The kernel and the reference end with the same array: the indicators of the labels after nine updates of the centroids. -/
theorem algebraic : Cert.algebraic_KernelIdeal_ReferenceIdeal (hKernelIdeal := Cert.KernelIdeal.Gen.facts)
    (hReferenceIdeal := Cert.ReferenceIdeal.Gen.facts) := fun m g m' g' _ h =>
  ⟨fun c => Cert.KMeans.refHot (Cert.KMeans.Ref.finalLabels
      (m ((c.tc : Thread Cert.KernelIdeal.nD Cert.KernelIdeal.τ).loc Cert.KernelIdeal.main_arg1))),
    Cert.KMeans.Ker.run m g,
    θ_run_mono (Cert.KMeans.Ref.run m' g') fun _ e c => ⟨(e.1 c).1.trans
      (congrArg (fun x => Cert.KMeans.refHot (Cert.KMeans.Ref.finalLabels x)) (h c).2), (e.1 c).2⟩⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m g _ => θ_run_mono (Cert.KMeans.Ref.run m g) fun _ h => ⟨fun c => (h.1 c).2, h.2⟩, trivial, algebraic⟩

end Cert.Proof

end
